-- ==== Defs.lean ====
def Pre_Kernel [hPre_valid_segments : Cert.Pre_valid_segments.Facts] (m : (ℓ : Loc Cert.Kernel.nD Cert.Kernel.τ Cert.Kernel.sig) → Buf (Elt Bits) ℓ) : Prop :=
  ∀ c : Dev Cert.Kernel.nD,
    (Cert.Pre_valid_segments.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_valid_segments : Cert.Pre_valid_segments.Facts] (m : (ℓ : Loc Cert.KernelIdeal.nD Cert.KernelIdeal.τ Cert.KernelIdeal.sig) → Buf (Elt Ideal) ℓ) : Prop :=
  ∀ c : Dev Cert.KernelIdeal.nD,
    (Cert.Pre_valid_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_valid_segments : Cert.Pre_valid_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_valid_segments : Cert.Pre_valid_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_valid_segments : Cert.Pre_valid_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_valid_segments : Cert.Pre_valid_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_valid_segments : Cert.Pre_valid_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_valid_segments : Cert.Pre_valid_segments.Facts),
    quiescent_Kernel (hKernel := hKernel) (hPre_valid_segments := hPre_valid_segments)
    ∧ quiescent_KernelIdeal (hKernelIdeal := hKernelIdeal) (hPre_valid_segments := hPre_valid_segments)
    ∧ quiescent_ReferenceIdeal (hReferenceIdeal := hReferenceIdeal) (hPre_valid_segments := hPre_valid_segments)
    ∧ preserves_Kernel_KernelIdeal
    ∧ algebraic_KernelIdeal_ReferenceIdeal (hKernelIdeal := hKernelIdeal) (hReferenceIdeal := hReferenceIdeal) (hPre_valid_segments := hPre_valid_segments)
-- ==== Pre_valid_segments.lean ====
abbrev S32768x1024 : Shape := ⟨2, ![32768, 1024]⟩
abbrev S17 : Shape := ⟨1, ![17]⟩
abbrev S16 : Shape := ⟨1, ![16]⟩
abbrev S1 : Shape := ⟨1, ![1]⟩
abbrev S_ : Shape := ⟨0, ![]⟩

class Facts : Prop where
  slices_S17_S16_1 : S17.Slices ![1] S16
  slices_S17_S16_0 : S17.Slices ![0] S16
  slices_S17_S1_0 : S17.Slices ![0] S1
  shapeCasts_S1_S_ : S1.ShapeCasts S_
  slices_S17_S1_16 : S17.Slices ![16] S1
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S32768x1024 .f32) (main_arg1 : IVec S17 32) : IVec S_ 1 :=
  let main_v0 : IVec S16 32 := (extractStridedSlice S16 ![1] · slices_S17_S16_1) main_arg1
  let main_v1 : IVec S16 32 := (extractStridedSlice S16 ![0] · slices_S17_S16_0) main_arg1
  let main_v2 : IVec S16 32 := subi main_v0 main_v1
  let main_v3 : IVec S1 32 := (extractStridedSlice S1 ![0] · slices_S17_S1_0) main_arg1
  let main_v4 : IVec S_ 32 := shapeCast S_ main_v3 shapeCasts_S1_S_
  let main_c : IVec S_ 32 := constantI S_ 32 0#32
  let main_v5 : IVec S_ 1 := cmpi .eq main_v4 main_c
  let main_v6 : IVec S1 32 := (extractStridedSlice S1 ![16] · slices_S17_S1_16) main_arg1
  let main_v7 : IVec S_ 32 := shapeCast S_ main_v6 shapeCasts_S1_S_
  let main_c_0 : IVec S_ 32 := constantI S_ 32 32768#32
  let main_v8 : IVec S_ 1 := cmpi .eq main_v7 main_c_0
  let main_v9 : IVec S_ 1 := andi main_v5 main_v8
  let main_c_1 : IVec S_ 32 := constantI S_ 32 0#32
  let main_v10 : IVec S16 32 := broadcastInDim S16 ![] bcast_S_S16 main_c_1
  let main_v11 : IVec S16 1 := cmpi .sge main_v2 main_v10
  let main_c_2 : IVec S_ 1 := constantI S_ 1 1#1
  let main_v12 : IVec S_ 1 := (fun x v => Host.reduce IntOp.andi x v reducesTo_S16_S_d0 h_S_) main_v11 main_c_2
  let main_v13 : IVec S_ 1 := andi main_v9 main_v12
  let main_c_3 : IVec S_ 32 := constantI S_ 32 4096#32
  let main_v14 : IVec S16 32 := broadcastInDim S16 ![] bcast_S_S16 main_c_3
  let main_v15 : IVec S16 1 := cmpi .sle main_v2 main_v14
  let main_c_4 : IVec S_ 1 := constantI S_ 1 1#1
  let main_v16 : IVec S_ 1 := (fun x v => Host.reduce IntOp.andi x v reducesTo_S16_S_d0 h_S_) main_v15 main_c_4
  let main_v17 : IVec S_ 1 := andi main_v13 main_v16
  main_v17
-- ==== Kernel.lean ====
abbrev S32768x1024 : Shape := ⟨2, ![32768, 1024]⟩
abbrev S17 : Shape := ⟨1, ![17]⟩
abbrev S_ : Shape := ⟨0, ![]⟩
abbrev S32 : Shape := ⟨1, ![32]⟩
abbrev S1 : Shape := ⟨1, ![1]⟩
abbrev S32x1024 : Shape := ⟨2, ![32, 1024]⟩
abbrev S16x4096x1024 : Shape := ⟨3, ![16, 4096, 1024]⟩
abbrev S64x1024 : Shape := ⟨2, ![64, 1024]⟩
abbrev S16 : Shape := ⟨1, ![16]⟩
abbrev S1x64x1024 : Shape := ⟨3, ![1, 64, 1024]⟩
abbrev S1x32x1024 : Shape := ⟨3, ![1, 32, 1024]⟩
abbrev S16x1024 : Shape := ⟨2, ![16, 1024]⟩
abbrev S1x16x1024 : Shape := ⟨3, ![1, 16, 1024]⟩
abbrev S8x1024 : Shape := ⟨2, ![8, 1024]⟩
abbrev S1x8x1024 : Shape := ⟨3, ![1, 8, 1024]⟩
abbrev S4x1024 : Shape := ⟨2, ![4, 1024]⟩
abbrev S1x4x1024 : Shape := ⟨3, ![1, 4, 1024]⟩
abbrev S2x1024 : Shape := ⟨2, ![2, 1024]⟩
abbrev S1x2x1024 : Shape := ⟨3, ![1, 2, 1024]⟩
abbrev S1x1024 : Shape := ⟨2, ![1, 1024]⟩
abbrev S1x1x1024 : Shape := ⟨3, ![1, 1, 1024]⟩

abbrev nBuf : Table → Nat
  | .hbm => 10
  | .local .scVector .vmem => 3
  | _ => 0

abbrev bufTy : (tb : Table) → Fin (nBuf tb) → BufTy
  | .hbm, ⟨0, _⟩ => ⟨S32768x1024, .f32⟩
  | .hbm, ⟨1, _⟩ => ⟨S17, .i32⟩
  | .hbm, ⟨2, _⟩ => ⟨S_, .i32⟩
  | .hbm, ⟨3, _⟩ => ⟨S32, .i32⟩
  | .hbm, ⟨4, _⟩ => ⟨S_, .i32⟩
  | .hbm, ⟨5, _⟩ => ⟨S1, .i32⟩
  | .hbm, ⟨6, _⟩ => ⟨S32, .i32⟩
  | .hbm, ⟨7, _⟩ => ⟨S_, .f32⟩
  | .hbm, ⟨8, _⟩ => ⟨S32x1024, .f32⟩
  | .hbm, ⟨9, _⟩ => ⟨S16x4096x1024, .f32⟩
  | .local .scVector .vmem, ⟨0, _⟩ => ⟨S32, .i32⟩
  | .local .scVector .vmem, ⟨1, _⟩ => ⟨S64x1024, .f32⟩
  | .local .scVector .vmem, ⟨2, _⟩ => ⟨S32x1024, .f32⟩
  | _, _ => ⟨S32768x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_arg0_scv : Ref sig .scVector := ⟨.hbm, 0, rfl⟩
abbrev main_v2_scv : Ref sig .scVector := ⟨.hbm, 6, rfl⟩
abbrev main_v3_scv : Ref sig .scVector := ⟨.hbm, 8, rfl⟩
abbrev main_v4_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let v30 : Index := Scalar.indexCast v18
  ![v30.toNat]
@[reducible] def k0_t1_loop (i : grid0.Coords) (v34 : BitVec 32) (v36 : BitVec 32) : Scf.Loop 32 :=
  let c0_i32_21 : BitVec 32 := 0#32
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let v61 : BitVec 32 := Scalar.subi v57 c0_i32_21
  let c1_i32_22 : BitVec 32 := 1#32
  let v63 : BitVec 32 := Scalar.divsi v61 c1_i32_22
  let v64 : BitVec 32 := Scalar.muli v63 c1_i32_22
  let v65 : BitVec 32 := Scalar.addi c0_i32_21 v64
  let c1_i32_23 : BitVec 32 := 1#32
  ⟨c0_i32_21, v65, c1_i32_23⟩

def k0_off2 (i : grid0.Coords) (v34 : BitVec 32) (v36 : BitVec 32) (k0_t1 : Fin (k0_t1_loop i v34 v36).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v60 : BitVec 32 := Scalar.addi v34 v29
  let c0_i32_21 : BitVec 32 := 0#32
  let c1_i32_23 : BitVec 32 := 1#32
  let arg9 : BitVec 32 := Scf.iv c0_i32_21 c1_i32_23 k0_t1
  let c64_i32_89 : BitVec 32 := 64#32
  let v171 : BitVec 32 := Scalar.muli arg9 c64_i32_89
  let v172 : BitVec 32 := Scalar.addi v60 v171
  let c0_i32_91_r2 : BitVec 32 := 0#32
  ![v172.toNat, 0]
def k0_off3 (i : grid0.Coords) (v34 : BitVec 32) (v36 : BitVec 32) (k0_t1 : Fin (k0_t1_loop i v34 v36).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_21 : BitVec 32 := 0#32
  let c1_i32_23 : BitVec 32 := 1#32
  let arg9 : BitVec 32 := Scf.iv c0_i32_21 c1_i32_23 k0_t1
  let c64_i32_90 : BitVec 32 := 64#32
  let v173 : BitVec 32 := Scalar.muli arg9 c64_i32_90
  let v174 : BitVec 32 := Scalar.addi v29 v173
  let c0_i32_91_r3 : BitVec 32 := 0#32
  ![v18.toNat, v174.toNat, 0]
@[reducible] def k0_t2_loop (i : grid0.Coords) (v34 : BitVec 32) (v36 : BitVec 32) : Scf.Loop 32 :=
  let c0_i32_21 : BitVec 32 := 0#32
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let v61 : BitVec 32 := Scalar.subi v57 c0_i32_21
  let c1_i32_22 : BitVec 32 := 1#32
  let v63 : BitVec 32 := Scalar.divsi v61 c1_i32_22
  let v64 : BitVec 32 := Scalar.muli v63 c1_i32_22
  let v65 : BitVec 32 := Scalar.addi c0_i32_21 v64
  let v62 : BitVec 32 := Scalar.addi c0_i32_21 v61
  let c1_i32_24 : BitVec 32 := 1#32
  ⟨v65, v62, c1_i32_24⟩
def k0_off4 (i : grid0.Coords) (v34 : BitVec 32) (v36 : BitVec 32) (k0_t2 : Fin (k0_t2_loop i v34 v36).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v60 : BitVec 32 := Scalar.addi v34 v29
  let c0_i32_21 : BitVec 32 := 0#32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let v61 : BitVec 32 := Scalar.subi v57 c0_i32_21
  let c1_i32_22 : BitVec 32 := 1#32
  let v63 : BitVec 32 := Scalar.divsi v61 c1_i32_22
  let v64 : BitVec 32 := Scalar.muli v63 c1_i32_22
  let v65 : BitVec 32 := Scalar.addi c0_i32_21 v64
  let c1_i32_24 : BitVec 32 := 1#32
  let arg9 : BitVec 32 := Scf.iv v65 c1_i32_24 k0_t2
  let c64_i32_89 : BitVec 32 := 64#32
  let v171 : BitVec 32 := Scalar.muli arg9 c64_i32_89
  let v172 : BitVec 32 := Scalar.addi v60 v171
  let c0_i32_91_r4 : BitVec 32 := 0#32
  ![v172.toNat, 0]
def k0_off5 (i : grid0.Coords) (v34 : BitVec 32) (v36 : BitVec 32) (k0_t2 : Fin (k0_t2_loop i v34 v36).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_21 : BitVec 32 := 0#32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let v61 : BitVec 32 := Scalar.subi v57 c0_i32_21
  let c1_i32_22 : BitVec 32 := 1#32
  let v63 : BitVec 32 := Scalar.divsi v61 c1_i32_22
  let v64 : BitVec 32 := Scalar.muli v63 c1_i32_22
  let v65 : BitVec 32 := Scalar.addi c0_i32_21 v64
  let c1_i32_24 : BitVec 32 := 1#32
  let arg9 : BitVec 32 := Scf.iv v65 c1_i32_24 k0_t2
  let c64_i32_90 : BitVec 32 := 64#32
  let v173 : BitVec 32 := Scalar.muli arg9 c64_i32_90
  let v174 : BitVec 32 := Scalar.addi v29 v173
  let c0_i32_91_r5 : BitVec 32 := 0#32
  ![v18.toNat, v174.toNat, 0]
def k0_off6 (i : grid0.Coords) (v34 : BitVec 32) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v60 : BitVec 32 := Scalar.addi v34 v29
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_25 : BitVec 32 := 64#32
  let v66 : BitVec 32 := Scalar.muli v57 c64_i32_25
  let c64_i32_19 : BitVec 32 := 64#32
  let v58 : BitVec 32 := Scalar.muli v57 c64_i32_19
  let v59 : BitVec 32 := Scalar.subi v40 v58
  let c6_i32 : BitVec 32 := 6#32
  let v67 : BitVec 32 := Scalar.shrsi v59 c6_i32
  let c6_i32_26 : BitVec 32 := 6#32
  let v68 : BitVec 32 := Scalar.shli v67 c6_i32_26
  let v69 : BitVec 32 := Scalar.addi v66 v68
  let v171 : BitVec 32 := Scalar.addi v60 v69
  let c0_i32_91_r6 : BitVec 32 := 0#32
  ![v171.toNat, 0]
def k0_cond1 (i : grid0.Coords) (v34 : BitVec 32) (v36 : BitVec 32) : BitVec 1 :=
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_19 : BitVec 32 := 64#32
  let v58 : BitVec 32 := Scalar.muli v57 c64_i32_19
  let v59 : BitVec 32 := Scalar.subi v40 v58
  let c32_i32 : BitVec 32 := 32#32
  let v70 : BitVec 32 := Scalar.andi v59 c32_i32
  let c0_i32_27 : BitVec 32 := 0#32
  let v71 : BitVec 1 := Scalar.cmpi .ne v70 c0_i32_27
  let v72 : BitVec 32 := Scalar.extui v71
  let c0_i32_28 : BitVec 32 := 0#32
  let v73 : BitVec 1 := Scalar.cmpi .ne v72 c0_i32_28
  v73

def k0_off7 (i : grid0.Coords) (v34 : BitVec 32) (v36 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_25 : BitVec 32 := 64#32
  let v66 : BitVec 32 := Scalar.muli v57 c64_i32_25
  let c64_i32_19 : BitVec 32 := 64#32
  let v58 : BitVec 32 := Scalar.muli v57 c64_i32_19
  let v59 : BitVec 32 := Scalar.subi v40 v58
  let c6_i32 : BitVec 32 := 6#32
  let v67 : BitVec 32 := Scalar.shrsi v59 c6_i32
  let c6_i32_26 : BitVec 32 := 6#32
  let v68 : BitVec 32 := Scalar.shli v67 c6_i32_26
  let v69 : BitVec 32 := Scalar.addi v66 v68
  let v172 : BitVec 32 := Scalar.addi v29 v69
  let c0_i32_91_r7 : BitVec 32 := 0#32
  ![v18.toNat, v172.toNat, 0]
def k0_off8 (i : grid0.Coords) (v34 : BitVec 32) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v60 : BitVec 32 := Scalar.addi v34 v29
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_25 : BitVec 32 := 64#32
  let v66 : BitVec 32 := Scalar.muli v57 c64_i32_25
  let c64_i32_19 : BitVec 32 := 64#32
  let v58 : BitVec 32 := Scalar.muli v57 c64_i32_19
  let v59 : BitVec 32 := Scalar.subi v40 v58
  let c5_i32 : BitVec 32 := 5#32
  let v74 : BitVec 32 := Scalar.shrsi v59 c5_i32
  let c5_i32_29 : BitVec 32 := 5#32
  let v75 : BitVec 32 := Scalar.shli v74 c5_i32_29
  let v76 : BitVec 32 := Scalar.addi v66 v75
  let v171 : BitVec 32 := Scalar.addi v60 v76
  let c0_i32_91_r8 : BitVec 32 := 0#32
  ![v171.toNat, 0]
def k0_cond2 (i : grid0.Coords) (v34 : BitVec 32) (v36 : BitVec 32) : BitVec 1 :=
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_19 : BitVec 32 := 64#32
  let v58 : BitVec 32 := Scalar.muli v57 c64_i32_19
  let v59 : BitVec 32 := Scalar.subi v40 v58
  let c16_i32 : BitVec 32 := 16#32
  let v77 : BitVec 32 := Scalar.andi v59 c16_i32
  let c0_i32_30 : BitVec 32 := 0#32
  let v78 : BitVec 1 := Scalar.cmpi .ne v77 c0_i32_30
  let v79 : BitVec 32 := Scalar.extui v78
  let c0_i32_31 : BitVec 32 := 0#32
  let v80 : BitVec 1 := Scalar.cmpi .ne v79 c0_i32_31
  v80

def k0_off9 (i : grid0.Coords) (v34 : BitVec 32) (v36 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_25 : BitVec 32 := 64#32
  let v66 : BitVec 32 := Scalar.muli v57 c64_i32_25
  let c64_i32_19 : BitVec 32 := 64#32
  let v58 : BitVec 32 := Scalar.muli v57 c64_i32_19
  let v59 : BitVec 32 := Scalar.subi v40 v58
  let c5_i32 : BitVec 32 := 5#32
  let v74 : BitVec 32 := Scalar.shrsi v59 c5_i32
  let c5_i32_29 : BitVec 32 := 5#32
  let v75 : BitVec 32 := Scalar.shli v74 c5_i32_29
  let v76 : BitVec 32 := Scalar.addi v66 v75
  let v172 : BitVec 32 := Scalar.addi v29 v76
  let c0_i32_91_r9 : BitVec 32 := 0#32
  ![v18.toNat, v172.toNat, 0]
def k0_off10 (i : grid0.Coords) (v34 : BitVec 32) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v60 : BitVec 32 := Scalar.addi v34 v29
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_25 : BitVec 32 := 64#32
  let v66 : BitVec 32 := Scalar.muli v57 c64_i32_25
  let c64_i32_19 : BitVec 32 := 64#32
  let v58 : BitVec 32 := Scalar.muli v57 c64_i32_19
  let v59 : BitVec 32 := Scalar.subi v40 v58
  let c4_i32 : BitVec 32 := 4#32
  let v81 : BitVec 32 := Scalar.shrsi v59 c4_i32
  let c4_i32_32 : BitVec 32 := 4#32
  let v82 : BitVec 32 := Scalar.shli v81 c4_i32_32
  let v83 : BitVec 32 := Scalar.addi v66 v82
  let v171 : BitVec 32 := Scalar.addi v60 v83
  let c0_i32_91_r10 : BitVec 32 := 0#32
  ![v171.toNat, 0]
def k0_cond3 (i : grid0.Coords) (v34 : BitVec 32) (v36 : BitVec 32) : BitVec 1 :=
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_19 : BitVec 32 := 64#32
  let v58 : BitVec 32 := Scalar.muli v57 c64_i32_19
  let v59 : BitVec 32 := Scalar.subi v40 v58
  let c8_i32 : BitVec 32 := 8#32
  let v84 : BitVec 32 := Scalar.andi v59 c8_i32
  let c0_i32_33 : BitVec 32 := 0#32
  let v85 : BitVec 1 := Scalar.cmpi .ne v84 c0_i32_33
  let v86 : BitVec 32 := Scalar.extui v85
  let c0_i32_34 : BitVec 32 := 0#32
  let v87 : BitVec 1 := Scalar.cmpi .ne v86 c0_i32_34
  v87

def k0_off11 (i : grid0.Coords) (v34 : BitVec 32) (v36 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_25 : BitVec 32 := 64#32
  let v66 : BitVec 32 := Scalar.muli v57 c64_i32_25
  let c64_i32_19 : BitVec 32 := 64#32
  let v58 : BitVec 32 := Scalar.muli v57 c64_i32_19
  let v59 : BitVec 32 := Scalar.subi v40 v58
  let c4_i32 : BitVec 32 := 4#32
  let v81 : BitVec 32 := Scalar.shrsi v59 c4_i32
  let c4_i32_32 : BitVec 32 := 4#32
  let v82 : BitVec 32 := Scalar.shli v81 c4_i32_32
  let v83 : BitVec 32 := Scalar.addi v66 v82
  let v172 : BitVec 32 := Scalar.addi v29 v83
  let c0_i32_91_r11 : BitVec 32 := 0#32
  ![v18.toNat, v172.toNat, 0]
def k0_off12 (i : grid0.Coords) (v34 : BitVec 32) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v60 : BitVec 32 := Scalar.addi v34 v29
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_25 : BitVec 32 := 64#32
  let v66 : BitVec 32 := Scalar.muli v57 c64_i32_25
  let c64_i32_19 : BitVec 32 := 64#32
  let v58 : BitVec 32 := Scalar.muli v57 c64_i32_19
  let v59 : BitVec 32 := Scalar.subi v40 v58
  let c3_i32 : BitVec 32 := 3#32
  let v88 : BitVec 32 := Scalar.shrsi v59 c3_i32
  let c3_i32_35 : BitVec 32 := 3#32
  let v89 : BitVec 32 := Scalar.shli v88 c3_i32_35
  let v90 : BitVec 32 := Scalar.addi v66 v89
  let v171 : BitVec 32 := Scalar.addi v60 v90
  let c0_i32_91_r12 : BitVec 32 := 0#32
  ![v171.toNat, 0]
def k0_cond4 (i : grid0.Coords) (v34 : BitVec 32) (v36 : BitVec 32) : BitVec 1 :=
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_19 : BitVec 32 := 64#32
  let v58 : BitVec 32 := Scalar.muli v57 c64_i32_19
  let v59 : BitVec 32 := Scalar.subi v40 v58
  let c4_i32_36 : BitVec 32 := 4#32
  let v91 : BitVec 32 := Scalar.andi v59 c4_i32_36
  let c0_i32_37 : BitVec 32 := 0#32
  let v92 : BitVec 1 := Scalar.cmpi .ne v91 c0_i32_37
  let v93 : BitVec 32 := Scalar.extui v92
  let c0_i32_38 : BitVec 32 := 0#32
  let v94 : BitVec 1 := Scalar.cmpi .ne v93 c0_i32_38
  v94

def k0_off13 (i : grid0.Coords) (v34 : BitVec 32) (v36 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_25 : BitVec 32 := 64#32
  let v66 : BitVec 32 := Scalar.muli v57 c64_i32_25
  let c64_i32_19 : BitVec 32 := 64#32
  let v58 : BitVec 32 := Scalar.muli v57 c64_i32_19
  let v59 : BitVec 32 := Scalar.subi v40 v58
  let c3_i32 : BitVec 32 := 3#32
  let v88 : BitVec 32 := Scalar.shrsi v59 c3_i32
  let c3_i32_35 : BitVec 32 := 3#32
  let v89 : BitVec 32 := Scalar.shli v88 c3_i32_35
  let v90 : BitVec 32 := Scalar.addi v66 v89
  let v172 : BitVec 32 := Scalar.addi v29 v90
  let c0_i32_91_r13 : BitVec 32 := 0#32
  ![v18.toNat, v172.toNat, 0]
def k0_off14 (i : grid0.Coords) (v34 : BitVec 32) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v60 : BitVec 32 := Scalar.addi v34 v29
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_25 : BitVec 32 := 64#32
  let v66 : BitVec 32 := Scalar.muli v57 c64_i32_25
  let c64_i32_19 : BitVec 32 := 64#32
  let v58 : BitVec 32 := Scalar.muli v57 c64_i32_19
  let v59 : BitVec 32 := Scalar.subi v40 v58
  let c2_i32_39 : BitVec 32 := 2#32
  let v95 : BitVec 32 := Scalar.shrsi v59 c2_i32_39
  let c2_i32_40 : BitVec 32 := 2#32
  let v96 : BitVec 32 := Scalar.shli v95 c2_i32_40
  let v97 : BitVec 32 := Scalar.addi v66 v96
  let v171 : BitVec 32 := Scalar.addi v60 v97
  let c0_i32_91_r14 : BitVec 32 := 0#32
  ![v171.toNat, 0]
def k0_cond5 (i : grid0.Coords) (v34 : BitVec 32) (v36 : BitVec 32) : BitVec 1 :=
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_19 : BitVec 32 := 64#32
  let v58 : BitVec 32 := Scalar.muli v57 c64_i32_19
  let v59 : BitVec 32 := Scalar.subi v40 v58
  let c2_i32_41 : BitVec 32 := 2#32
  let v98 : BitVec 32 := Scalar.andi v59 c2_i32_41
  let c0_i32_42 : BitVec 32 := 0#32
  let v99 : BitVec 1 := Scalar.cmpi .ne v98 c0_i32_42
  let v100 : BitVec 32 := Scalar.extui v99
  let c0_i32_43 : BitVec 32 := 0#32
  let v101 : BitVec 1 := Scalar.cmpi .ne v100 c0_i32_43
  v101

def k0_off15 (i : grid0.Coords) (v34 : BitVec 32) (v36 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_25 : BitVec 32 := 64#32
  let v66 : BitVec 32 := Scalar.muli v57 c64_i32_25
  let c64_i32_19 : BitVec 32 := 64#32
  let v58 : BitVec 32 := Scalar.muli v57 c64_i32_19
  let v59 : BitVec 32 := Scalar.subi v40 v58
  let c2_i32_39 : BitVec 32 := 2#32
  let v95 : BitVec 32 := Scalar.shrsi v59 c2_i32_39
  let c2_i32_40 : BitVec 32 := 2#32
  let v96 : BitVec 32 := Scalar.shli v95 c2_i32_40
  let v97 : BitVec 32 := Scalar.addi v66 v96
  let v172 : BitVec 32 := Scalar.addi v29 v97
  let c0_i32_91_r15 : BitVec 32 := 0#32
  ![v18.toNat, v172.toNat, 0]
def k0_off16 (i : grid0.Coords) (v34 : BitVec 32) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v60 : BitVec 32 := Scalar.addi v34 v29
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_25 : BitVec 32 := 64#32
  let v66 : BitVec 32 := Scalar.muli v57 c64_i32_25
  let c64_i32_19 : BitVec 32 := 64#32
  let v58 : BitVec 32 := Scalar.muli v57 c64_i32_19
  let v59 : BitVec 32 := Scalar.subi v40 v58
  let c1_i32_44 : BitVec 32 := 1#32
  let v102 : BitVec 32 := Scalar.shrsi v59 c1_i32_44
  let c1_i32_45 : BitVec 32 := 1#32
  let v103 : BitVec 32 := Scalar.shli v102 c1_i32_45
  let v104 : BitVec 32 := Scalar.addi v66 v103
  let v171 : BitVec 32 := Scalar.addi v60 v104
  let c0_i32_91_r16 : BitVec 32 := 0#32
  ![v171.toNat, 0]
def k0_cond6 (i : grid0.Coords) (v34 : BitVec 32) (v36 : BitVec 32) : BitVec 1 :=
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_19 : BitVec 32 := 64#32
  let v58 : BitVec 32 := Scalar.muli v57 c64_i32_19
  let v59 : BitVec 32 := Scalar.subi v40 v58
  let c1_i32_46 : BitVec 32 := 1#32
  let v105 : BitVec 32 := Scalar.andi v59 c1_i32_46
  let c0_i32_47 : BitVec 32 := 0#32
  let v106 : BitVec 1 := Scalar.cmpi .ne v105 c0_i32_47
  let v107 : BitVec 32 := Scalar.extui v106
  let c0_i32_48 : BitVec 32 := 0#32
  let v108 : BitVec 1 := Scalar.cmpi .ne v107 c0_i32_48
  v108

def k0_off17 (i : grid0.Coords) (v34 : BitVec 32) (v36 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c64_i32 : BitVec 32 := 64#32
  let c0_i32_15 : BitVec 32 := 0#32
  let v47 : BitVec 1 := Scalar.cmpi .sgt c64_i32 c0_i32_15
  let v48 : BitVec 32 := Scalar.extui v47
  let c0_i32_16 : BitVec 32 := 0#32
  let v49 : BitVec 1 := Scalar.cmpi .slt c64_i32 c0_i32_16
  let v50 : BitVec 32 := Scalar.extui v49
  let v51 : BitVec 32 := Scalar.subi v48 v50
  let v52 : BitVec 1 := Scalar.cmpi .ne v46 v51
  let v53 : BitVec 32 := Scalar.remsi v40 c64_i32
  let c0_i32_17 : BitVec 32 := 0#32
  let v54 : BitVec 1 := Scalar.cmpi .ne v53 c0_i32_17
  let v55 : BitVec 1 := Scalar.andi v52 v54
  let v41 : BitVec 32 := Scalar.divsi v40 c64_i32
  let c1_i32_18 : BitVec 32 := 1#32
  let v56 : BitVec 32 := Scalar.subi v41 c1_i32_18
  let v57 : BitVec 32 := Scalar.select v55 v56 v41
  let c64_i32_25 : BitVec 32 := 64#32
  let v66 : BitVec 32 := Scalar.muli v57 c64_i32_25
  let c64_i32_19 : BitVec 32 := 64#32
  let v58 : BitVec 32 := Scalar.muli v57 c64_i32_19
  let v59 : BitVec 32 := Scalar.subi v40 v58
  let c1_i32_44 : BitVec 32 := 1#32
  let v102 : BitVec 32 := Scalar.shrsi v59 c1_i32_44
  let c1_i32_45 : BitVec 32 := 1#32
  let v103 : BitVec 32 := Scalar.shli v102 c1_i32_45
  let v104 : BitVec 32 := Scalar.addi v66 v103
  let v172 : BitVec 32 := Scalar.addi v29 v104
  let c0_i32_91_r17 : BitVec 32 := 0#32
  ![v18.toNat, v172.toNat, 0]
@[reducible] def k0_t3_loop (i : grid0.Coords) (v34 : BitVec 32) (v36 : BitVec 32) : Scf.Loop 32 :=
  let c0_i32_58 : BitVec 32 := 0#32
  let c2048_i32_49 : BitVec 32 := 2048#32
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let v109 : BitVec 32 := Scalar.subi c2048_i32_49 v40
  let c0_i32_51 : BitVec 32 := 0#32
  let v111 : BitVec 1 := Scalar.cmpi .sgt v109 c0_i32_51
  let v112 : BitVec 32 := Scalar.extui v111
  let c0_i32_52 : BitVec 32 := 0#32
  let v113 : BitVec 1 := Scalar.cmpi .slt v109 c0_i32_52
  let v114 : BitVec 32 := Scalar.extui v113
  let v115 : BitVec 32 := Scalar.subi v112 v114
  let c32_i32_50 : BitVec 32 := 32#32
  let c0_i32_53 : BitVec 32 := 0#32
  let v116 : BitVec 1 := Scalar.cmpi .sgt c32_i32_50 c0_i32_53
  let v117 : BitVec 32 := Scalar.extui v116
  let c0_i32_54 : BitVec 32 := 0#32
  let v118 : BitVec 1 := Scalar.cmpi .slt c32_i32_50 c0_i32_54
  let v119 : BitVec 32 := Scalar.extui v118
  let v120 : BitVec 32 := Scalar.subi v117 v119
  let v121 : BitVec 1 := Scalar.cmpi .ne v115 v120
  let v122 : BitVec 32 := Scalar.remsi v109 c32_i32_50
  let c0_i32_55 : BitVec 32 := 0#32
  let v123 : BitVec 1 := Scalar.cmpi .ne v122 c0_i32_55
  let v124 : BitVec 1 := Scalar.andi v121 v123
  let v110 : BitVec 32 := Scalar.divsi v109 c32_i32_50
  let c1_i32_56 : BitVec 32 := 1#32
  let v125 : BitVec 32 := Scalar.subi v110 c1_i32_56
  let v126 : BitVec 32 := Scalar.select v124 v125 v110
  let v127 : BitVec 32 := Scalar.subi v126 c0_i32_58
  let c1_i32_59 : BitVec 32 := 1#32
  let v129 : BitVec 32 := Scalar.divsi v127 c1_i32_59
  let v130 : BitVec 32 := Scalar.muli v129 c1_i32_59
  let v131 : BitVec 32 := Scalar.addi c0_i32_58 v130
  let c1_i32_60 : BitVec 32 := 1#32
  ⟨c0_i32_58, v131, c1_i32_60⟩
def k0_off18 (i : grid0.Coords) (v34 : BitVec 32) (v36 : BitVec 32) (k0_t3 : Fin (k0_t3_loop i v34 v36).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let v171 : BitVec 32 := Scalar.addi v29 v40
  let c0_i32_58 : BitVec 32 := 0#32
  let c1_i32_60 : BitVec 32 := 1#32
  let arg9 : BitVec 32 := Scf.iv c0_i32_58 c1_i32_60 k0_t3
  let c32_i32_89 : BitVec 32 := 32#32
  let v172 : BitVec 32 := Scalar.muli arg9 c32_i32_89
  let v173 : BitVec 32 := Scalar.addi v171 v172
  let c0_i32_90_r18 : BitVec 32 := 0#32
  ![v18.toNat, v173.toNat, 0]
@[reducible] def k0_t4_loop (i : grid0.Coords) (v34 : BitVec 32) (v36 : BitVec 32) : Scf.Loop 32 :=
  let c0_i32_58 : BitVec 32 := 0#32
  let c2048_i32_49 : BitVec 32 := 2048#32
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let v109 : BitVec 32 := Scalar.subi c2048_i32_49 v40
  let c0_i32_51 : BitVec 32 := 0#32
  let v111 : BitVec 1 := Scalar.cmpi .sgt v109 c0_i32_51
  let v112 : BitVec 32 := Scalar.extui v111
  let c0_i32_52 : BitVec 32 := 0#32
  let v113 : BitVec 1 := Scalar.cmpi .slt v109 c0_i32_52
  let v114 : BitVec 32 := Scalar.extui v113
  let v115 : BitVec 32 := Scalar.subi v112 v114
  let c32_i32_50 : BitVec 32 := 32#32
  let c0_i32_53 : BitVec 32 := 0#32
  let v116 : BitVec 1 := Scalar.cmpi .sgt c32_i32_50 c0_i32_53
  let v117 : BitVec 32 := Scalar.extui v116
  let c0_i32_54 : BitVec 32 := 0#32
  let v118 : BitVec 1 := Scalar.cmpi .slt c32_i32_50 c0_i32_54
  let v119 : BitVec 32 := Scalar.extui v118
  let v120 : BitVec 32 := Scalar.subi v117 v119
  let v121 : BitVec 1 := Scalar.cmpi .ne v115 v120
  let v122 : BitVec 32 := Scalar.remsi v109 c32_i32_50
  let c0_i32_55 : BitVec 32 := 0#32
  let v123 : BitVec 1 := Scalar.cmpi .ne v122 c0_i32_55
  let v124 : BitVec 1 := Scalar.andi v121 v123
  let v110 : BitVec 32 := Scalar.divsi v109 c32_i32_50
  let c1_i32_56 : BitVec 32 := 1#32
  let v125 : BitVec 32 := Scalar.subi v110 c1_i32_56
  let v126 : BitVec 32 := Scalar.select v124 v125 v110
  let v127 : BitVec 32 := Scalar.subi v126 c0_i32_58
  let c1_i32_59 : BitVec 32 := 1#32
  let v129 : BitVec 32 := Scalar.divsi v127 c1_i32_59
  let v130 : BitVec 32 := Scalar.muli v129 c1_i32_59
  let v131 : BitVec 32 := Scalar.addi c0_i32_58 v130
  let v128 : BitVec 32 := Scalar.addi c0_i32_58 v127
  let c1_i32_61 : BitVec 32 := 1#32
  ⟨v131, v128, c1_i32_61⟩
def k0_off19 (i : grid0.Coords) (v34 : BitVec 32) (v36 : BitVec 32) (k0_t4 : Fin (k0_t4_loop i v34 v36).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let v171 : BitVec 32 := Scalar.addi v29 v40
  let c0_i32_58 : BitVec 32 := 0#32
  let c2048_i32_49 : BitVec 32 := 2048#32
  let v109 : BitVec 32 := Scalar.subi c2048_i32_49 v40
  let c0_i32_51 : BitVec 32 := 0#32
  let v111 : BitVec 1 := Scalar.cmpi .sgt v109 c0_i32_51
  let v112 : BitVec 32 := Scalar.extui v111
  let c0_i32_52 : BitVec 32 := 0#32
  let v113 : BitVec 1 := Scalar.cmpi .slt v109 c0_i32_52
  let v114 : BitVec 32 := Scalar.extui v113
  let v115 : BitVec 32 := Scalar.subi v112 v114
  let c32_i32_50 : BitVec 32 := 32#32
  let c0_i32_53 : BitVec 32 := 0#32
  let v116 : BitVec 1 := Scalar.cmpi .sgt c32_i32_50 c0_i32_53
  let v117 : BitVec 32 := Scalar.extui v116
  let c0_i32_54 : BitVec 32 := 0#32
  let v118 : BitVec 1 := Scalar.cmpi .slt c32_i32_50 c0_i32_54
  let v119 : BitVec 32 := Scalar.extui v118
  let v120 : BitVec 32 := Scalar.subi v117 v119
  let v121 : BitVec 1 := Scalar.cmpi .ne v115 v120
  let v122 : BitVec 32 := Scalar.remsi v109 c32_i32_50
  let c0_i32_55 : BitVec 32 := 0#32
  let v123 : BitVec 1 := Scalar.cmpi .ne v122 c0_i32_55
  let v124 : BitVec 1 := Scalar.andi v121 v123
  let v110 : BitVec 32 := Scalar.divsi v109 c32_i32_50
  let c1_i32_56 : BitVec 32 := 1#32
  let v125 : BitVec 32 := Scalar.subi v110 c1_i32_56
  let v126 : BitVec 32 := Scalar.select v124 v125 v110
  let v127 : BitVec 32 := Scalar.subi v126 c0_i32_58
  let c1_i32_59 : BitVec 32 := 1#32
  let v129 : BitVec 32 := Scalar.divsi v127 c1_i32_59
  let v130 : BitVec 32 := Scalar.muli v129 c1_i32_59
  let v131 : BitVec 32 := Scalar.addi c0_i32_58 v130
  let c1_i32_61 : BitVec 32 := 1#32
  let arg9 : BitVec 32 := Scf.iv v131 c1_i32_61 k0_t4
  let c32_i32_89 : BitVec 32 := 32#32
  let v172 : BitVec 32 := Scalar.muli arg9 c32_i32_89
  let v173 : BitVec 32 := Scalar.addi v171 v172
  let c0_i32_90_r19 : BitVec 32 := 0#32
  ![v18.toNat, v173.toNat, 0]
def k0_off20 (i : grid0.Coords) (v34 : BitVec 32) (v36 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c2048_i32_49 : BitVec 32 := 2048#32
  let v109 : BitVec 32 := Scalar.subi c2048_i32_49 v40
  let c0_i32_51 : BitVec 32 := 0#32
  let v111 : BitVec 1 := Scalar.cmpi .sgt v109 c0_i32_51
  let v112 : BitVec 32 := Scalar.extui v111
  let c0_i32_52 : BitVec 32 := 0#32
  let v113 : BitVec 1 := Scalar.cmpi .slt v109 c0_i32_52
  let v114 : BitVec 32 := Scalar.extui v113
  let v115 : BitVec 32 := Scalar.subi v112 v114
  let c32_i32_50 : BitVec 32 := 32#32
  let c0_i32_53 : BitVec 32 := 0#32
  let v116 : BitVec 1 := Scalar.cmpi .sgt c32_i32_50 c0_i32_53
  let v117 : BitVec 32 := Scalar.extui v116
  let c0_i32_54 : BitVec 32 := 0#32
  let v118 : BitVec 1 := Scalar.cmpi .slt c32_i32_50 c0_i32_54
  let v119 : BitVec 32 := Scalar.extui v118
  let v120 : BitVec 32 := Scalar.subi v117 v119
  let v121 : BitVec 1 := Scalar.cmpi .ne v115 v120
  let v122 : BitVec 32 := Scalar.remsi v109 c32_i32_50
  let c0_i32_55 : BitVec 32 := 0#32
  let v123 : BitVec 1 := Scalar.cmpi .ne v122 c0_i32_55
  let v124 : BitVec 1 := Scalar.andi v121 v123
  let v110 : BitVec 32 := Scalar.divsi v109 c32_i32_50
  let c1_i32_56 : BitVec 32 := 1#32
  let v125 : BitVec 32 := Scalar.subi v110 c1_i32_56
  let v126 : BitVec 32 := Scalar.select v124 v125 v110
  let c32_i32_63 : BitVec 32 := 32#32
  let v134 : BitVec 32 := Scalar.muli v126 c32_i32_63
  let v135 : BitVec 32 := Scalar.addi v40 v134
  let c32_i32_62 : BitVec 32 := 32#32
  let v132 : BitVec 32 := Scalar.muli v126 c32_i32_62
  let v133 : BitVec 32 := Scalar.subi v109 v132
  let c5_i32_64 : BitVec 32 := 5#32
  let v136 : BitVec 32 := Scalar.shrsi v133 c5_i32_64
  let c5_i32_65 : BitVec 32 := 5#32
  let v137 : BitVec 32 := Scalar.shli v136 c5_i32_65
  let v138 : BitVec 32 := Scalar.addi v135 v137
  let v171 : BitVec 32 := Scalar.addi v29 v138
  let c0_i32_91_r20 : BitVec 32 := 0#32
  ![v18.toNat, v171.toNat, 0]
def k0_cond7 (i : grid0.Coords) (v34 : BitVec 32) (v36 : BitVec 32) : BitVec 1 :=
  let c2048_i32_49 : BitVec 32 := 2048#32
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let v109 : BitVec 32 := Scalar.subi c2048_i32_49 v40
  let c0_i32_51 : BitVec 32 := 0#32
  let v111 : BitVec 1 := Scalar.cmpi .sgt v109 c0_i32_51
  let v112 : BitVec 32 := Scalar.extui v111
  let c0_i32_52 : BitVec 32 := 0#32
  let v113 : BitVec 1 := Scalar.cmpi .slt v109 c0_i32_52
  let v114 : BitVec 32 := Scalar.extui v113
  let v115 : BitVec 32 := Scalar.subi v112 v114
  let c32_i32_50 : BitVec 32 := 32#32
  let c0_i32_53 : BitVec 32 := 0#32
  let v116 : BitVec 1 := Scalar.cmpi .sgt c32_i32_50 c0_i32_53
  let v117 : BitVec 32 := Scalar.extui v116
  let c0_i32_54 : BitVec 32 := 0#32
  let v118 : BitVec 1 := Scalar.cmpi .slt c32_i32_50 c0_i32_54
  let v119 : BitVec 32 := Scalar.extui v118
  let v120 : BitVec 32 := Scalar.subi v117 v119
  let v121 : BitVec 1 := Scalar.cmpi .ne v115 v120
  let v122 : BitVec 32 := Scalar.remsi v109 c32_i32_50
  let c0_i32_55 : BitVec 32 := 0#32
  let v123 : BitVec 1 := Scalar.cmpi .ne v122 c0_i32_55
  let v124 : BitVec 1 := Scalar.andi v121 v123
  let v110 : BitVec 32 := Scalar.divsi v109 c32_i32_50
  let c1_i32_56 : BitVec 32 := 1#32
  let v125 : BitVec 32 := Scalar.subi v110 c1_i32_56
  let v126 : BitVec 32 := Scalar.select v124 v125 v110
  let c32_i32_62 : BitVec 32 := 32#32
  let v132 : BitVec 32 := Scalar.muli v126 c32_i32_62
  let v133 : BitVec 32 := Scalar.subi v109 v132
  let c16_i32_66 : BitVec 32 := 16#32
  let v139 : BitVec 32 := Scalar.andi v133 c16_i32_66
  let c0_i32_67 : BitVec 32 := 0#32
  let v140 : BitVec 1 := Scalar.cmpi .ne v139 c0_i32_67
  let v141 : BitVec 32 := Scalar.extui v140
  let c0_i32_68 : BitVec 32 := 0#32
  let v142 : BitVec 1 := Scalar.cmpi .ne v141 c0_i32_68
  v142

def k0_off21 (i : grid0.Coords) (v34 : BitVec 32) (v36 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c2048_i32_49 : BitVec 32 := 2048#32
  let v109 : BitVec 32 := Scalar.subi c2048_i32_49 v40
  let c0_i32_51 : BitVec 32 := 0#32
  let v111 : BitVec 1 := Scalar.cmpi .sgt v109 c0_i32_51
  let v112 : BitVec 32 := Scalar.extui v111
  let c0_i32_52 : BitVec 32 := 0#32
  let v113 : BitVec 1 := Scalar.cmpi .slt v109 c0_i32_52
  let v114 : BitVec 32 := Scalar.extui v113
  let v115 : BitVec 32 := Scalar.subi v112 v114
  let c32_i32_50 : BitVec 32 := 32#32
  let c0_i32_53 : BitVec 32 := 0#32
  let v116 : BitVec 1 := Scalar.cmpi .sgt c32_i32_50 c0_i32_53
  let v117 : BitVec 32 := Scalar.extui v116
  let c0_i32_54 : BitVec 32 := 0#32
  let v118 : BitVec 1 := Scalar.cmpi .slt c32_i32_50 c0_i32_54
  let v119 : BitVec 32 := Scalar.extui v118
  let v120 : BitVec 32 := Scalar.subi v117 v119
  let v121 : BitVec 1 := Scalar.cmpi .ne v115 v120
  let v122 : BitVec 32 := Scalar.remsi v109 c32_i32_50
  let c0_i32_55 : BitVec 32 := 0#32
  let v123 : BitVec 1 := Scalar.cmpi .ne v122 c0_i32_55
  let v124 : BitVec 1 := Scalar.andi v121 v123
  let v110 : BitVec 32 := Scalar.divsi v109 c32_i32_50
  let c1_i32_56 : BitVec 32 := 1#32
  let v125 : BitVec 32 := Scalar.subi v110 c1_i32_56
  let v126 : BitVec 32 := Scalar.select v124 v125 v110
  let c32_i32_63 : BitVec 32 := 32#32
  let v134 : BitVec 32 := Scalar.muli v126 c32_i32_63
  let v135 : BitVec 32 := Scalar.addi v40 v134
  let c32_i32_62 : BitVec 32 := 32#32
  let v132 : BitVec 32 := Scalar.muli v126 c32_i32_62
  let v133 : BitVec 32 := Scalar.subi v109 v132
  let c4_i32_69 : BitVec 32 := 4#32
  let v143 : BitVec 32 := Scalar.shrsi v133 c4_i32_69
  let c4_i32_70 : BitVec 32 := 4#32
  let v144 : BitVec 32 := Scalar.shli v143 c4_i32_70
  let v145 : BitVec 32 := Scalar.addi v135 v144
  let v171 : BitVec 32 := Scalar.addi v29 v145
  let c0_i32_91_r21 : BitVec 32 := 0#32
  ![v18.toNat, v171.toNat, 0]
def k0_cond8 (i : grid0.Coords) (v34 : BitVec 32) (v36 : BitVec 32) : BitVec 1 :=
  let c2048_i32_49 : BitVec 32 := 2048#32
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let v109 : BitVec 32 := Scalar.subi c2048_i32_49 v40
  let c0_i32_51 : BitVec 32 := 0#32
  let v111 : BitVec 1 := Scalar.cmpi .sgt v109 c0_i32_51
  let v112 : BitVec 32 := Scalar.extui v111
  let c0_i32_52 : BitVec 32 := 0#32
  let v113 : BitVec 1 := Scalar.cmpi .slt v109 c0_i32_52
  let v114 : BitVec 32 := Scalar.extui v113
  let v115 : BitVec 32 := Scalar.subi v112 v114
  let c32_i32_50 : BitVec 32 := 32#32
  let c0_i32_53 : BitVec 32 := 0#32
  let v116 : BitVec 1 := Scalar.cmpi .sgt c32_i32_50 c0_i32_53
  let v117 : BitVec 32 := Scalar.extui v116
  let c0_i32_54 : BitVec 32 := 0#32
  let v118 : BitVec 1 := Scalar.cmpi .slt c32_i32_50 c0_i32_54
  let v119 : BitVec 32 := Scalar.extui v118
  let v120 : BitVec 32 := Scalar.subi v117 v119
  let v121 : BitVec 1 := Scalar.cmpi .ne v115 v120
  let v122 : BitVec 32 := Scalar.remsi v109 c32_i32_50
  let c0_i32_55 : BitVec 32 := 0#32
  let v123 : BitVec 1 := Scalar.cmpi .ne v122 c0_i32_55
  let v124 : BitVec 1 := Scalar.andi v121 v123
  let v110 : BitVec 32 := Scalar.divsi v109 c32_i32_50
  let c1_i32_56 : BitVec 32 := 1#32
  let v125 : BitVec 32 := Scalar.subi v110 c1_i32_56
  let v126 : BitVec 32 := Scalar.select v124 v125 v110
  let c32_i32_62 : BitVec 32 := 32#32
  let v132 : BitVec 32 := Scalar.muli v126 c32_i32_62
  let v133 : BitVec 32 := Scalar.subi v109 v132
  let c8_i32_71 : BitVec 32 := 8#32
  let v146 : BitVec 32 := Scalar.andi v133 c8_i32_71
  let c0_i32_72 : BitVec 32 := 0#32
  let v147 : BitVec 1 := Scalar.cmpi .ne v146 c0_i32_72
  let v148 : BitVec 32 := Scalar.extui v147
  let c0_i32_73 : BitVec 32 := 0#32
  let v149 : BitVec 1 := Scalar.cmpi .ne v148 c0_i32_73
  v149

def k0_off22 (i : grid0.Coords) (v34 : BitVec 32) (v36 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c2048_i32_49 : BitVec 32 := 2048#32
  let v109 : BitVec 32 := Scalar.subi c2048_i32_49 v40
  let c0_i32_51 : BitVec 32 := 0#32
  let v111 : BitVec 1 := Scalar.cmpi .sgt v109 c0_i32_51
  let v112 : BitVec 32 := Scalar.extui v111
  let c0_i32_52 : BitVec 32 := 0#32
  let v113 : BitVec 1 := Scalar.cmpi .slt v109 c0_i32_52
  let v114 : BitVec 32 := Scalar.extui v113
  let v115 : BitVec 32 := Scalar.subi v112 v114
  let c32_i32_50 : BitVec 32 := 32#32
  let c0_i32_53 : BitVec 32 := 0#32
  let v116 : BitVec 1 := Scalar.cmpi .sgt c32_i32_50 c0_i32_53
  let v117 : BitVec 32 := Scalar.extui v116
  let c0_i32_54 : BitVec 32 := 0#32
  let v118 : BitVec 1 := Scalar.cmpi .slt c32_i32_50 c0_i32_54
  let v119 : BitVec 32 := Scalar.extui v118
  let v120 : BitVec 32 := Scalar.subi v117 v119
  let v121 : BitVec 1 := Scalar.cmpi .ne v115 v120
  let v122 : BitVec 32 := Scalar.remsi v109 c32_i32_50
  let c0_i32_55 : BitVec 32 := 0#32
  let v123 : BitVec 1 := Scalar.cmpi .ne v122 c0_i32_55
  let v124 : BitVec 1 := Scalar.andi v121 v123
  let v110 : BitVec 32 := Scalar.divsi v109 c32_i32_50
  let c1_i32_56 : BitVec 32 := 1#32
  let v125 : BitVec 32 := Scalar.subi v110 c1_i32_56
  let v126 : BitVec 32 := Scalar.select v124 v125 v110
  let c32_i32_63 : BitVec 32 := 32#32
  let v134 : BitVec 32 := Scalar.muli v126 c32_i32_63
  let v135 : BitVec 32 := Scalar.addi v40 v134
  let c32_i32_62 : BitVec 32 := 32#32
  let v132 : BitVec 32 := Scalar.muli v126 c32_i32_62
  let v133 : BitVec 32 := Scalar.subi v109 v132
  let c3_i32_74 : BitVec 32 := 3#32
  let v150 : BitVec 32 := Scalar.shrsi v133 c3_i32_74
  let c3_i32_75 : BitVec 32 := 3#32
  let v151 : BitVec 32 := Scalar.shli v150 c3_i32_75
  let v152 : BitVec 32 := Scalar.addi v135 v151
  let v171 : BitVec 32 := Scalar.addi v29 v152
  let c0_i32_91_r22 : BitVec 32 := 0#32
  ![v18.toNat, v171.toNat, 0]
def k0_cond9 (i : grid0.Coords) (v34 : BitVec 32) (v36 : BitVec 32) : BitVec 1 :=
  let c2048_i32_49 : BitVec 32 := 2048#32
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let v109 : BitVec 32 := Scalar.subi c2048_i32_49 v40
  let c0_i32_51 : BitVec 32 := 0#32
  let v111 : BitVec 1 := Scalar.cmpi .sgt v109 c0_i32_51
  let v112 : BitVec 32 := Scalar.extui v111
  let c0_i32_52 : BitVec 32 := 0#32
  let v113 : BitVec 1 := Scalar.cmpi .slt v109 c0_i32_52
  let v114 : BitVec 32 := Scalar.extui v113
  let v115 : BitVec 32 := Scalar.subi v112 v114
  let c32_i32_50 : BitVec 32 := 32#32
  let c0_i32_53 : BitVec 32 := 0#32
  let v116 : BitVec 1 := Scalar.cmpi .sgt c32_i32_50 c0_i32_53
  let v117 : BitVec 32 := Scalar.extui v116
  let c0_i32_54 : BitVec 32 := 0#32
  let v118 : BitVec 1 := Scalar.cmpi .slt c32_i32_50 c0_i32_54
  let v119 : BitVec 32 := Scalar.extui v118
  let v120 : BitVec 32 := Scalar.subi v117 v119
  let v121 : BitVec 1 := Scalar.cmpi .ne v115 v120
  let v122 : BitVec 32 := Scalar.remsi v109 c32_i32_50
  let c0_i32_55 : BitVec 32 := 0#32
  let v123 : BitVec 1 := Scalar.cmpi .ne v122 c0_i32_55
  let v124 : BitVec 1 := Scalar.andi v121 v123
  let v110 : BitVec 32 := Scalar.divsi v109 c32_i32_50
  let c1_i32_56 : BitVec 32 := 1#32
  let v125 : BitVec 32 := Scalar.subi v110 c1_i32_56
  let v126 : BitVec 32 := Scalar.select v124 v125 v110
  let c32_i32_62 : BitVec 32 := 32#32
  let v132 : BitVec 32 := Scalar.muli v126 c32_i32_62
  let v133 : BitVec 32 := Scalar.subi v109 v132
  let c4_i32_76 : BitVec 32 := 4#32
  let v153 : BitVec 32 := Scalar.andi v133 c4_i32_76
  let c0_i32_77 : BitVec 32 := 0#32
  let v154 : BitVec 1 := Scalar.cmpi .ne v153 c0_i32_77
  let v155 : BitVec 32 := Scalar.extui v154
  let c0_i32_78 : BitVec 32 := 0#32
  let v156 : BitVec 1 := Scalar.cmpi .ne v155 c0_i32_78
  v156

def k0_off23 (i : grid0.Coords) (v34 : BitVec 32) (v36 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c2048_i32_49 : BitVec 32 := 2048#32
  let v109 : BitVec 32 := Scalar.subi c2048_i32_49 v40
  let c0_i32_51 : BitVec 32 := 0#32
  let v111 : BitVec 1 := Scalar.cmpi .sgt v109 c0_i32_51
  let v112 : BitVec 32 := Scalar.extui v111
  let c0_i32_52 : BitVec 32 := 0#32
  let v113 : BitVec 1 := Scalar.cmpi .slt v109 c0_i32_52
  let v114 : BitVec 32 := Scalar.extui v113
  let v115 : BitVec 32 := Scalar.subi v112 v114
  let c32_i32_50 : BitVec 32 := 32#32
  let c0_i32_53 : BitVec 32 := 0#32
  let v116 : BitVec 1 := Scalar.cmpi .sgt c32_i32_50 c0_i32_53
  let v117 : BitVec 32 := Scalar.extui v116
  let c0_i32_54 : BitVec 32 := 0#32
  let v118 : BitVec 1 := Scalar.cmpi .slt c32_i32_50 c0_i32_54
  let v119 : BitVec 32 := Scalar.extui v118
  let v120 : BitVec 32 := Scalar.subi v117 v119
  let v121 : BitVec 1 := Scalar.cmpi .ne v115 v120
  let v122 : BitVec 32 := Scalar.remsi v109 c32_i32_50
  let c0_i32_55 : BitVec 32 := 0#32
  let v123 : BitVec 1 := Scalar.cmpi .ne v122 c0_i32_55
  let v124 : BitVec 1 := Scalar.andi v121 v123
  let v110 : BitVec 32 := Scalar.divsi v109 c32_i32_50
  let c1_i32_56 : BitVec 32 := 1#32
  let v125 : BitVec 32 := Scalar.subi v110 c1_i32_56
  let v126 : BitVec 32 := Scalar.select v124 v125 v110
  let c32_i32_63 : BitVec 32 := 32#32
  let v134 : BitVec 32 := Scalar.muli v126 c32_i32_63
  let v135 : BitVec 32 := Scalar.addi v40 v134
  let c32_i32_62 : BitVec 32 := 32#32
  let v132 : BitVec 32 := Scalar.muli v126 c32_i32_62
  let v133 : BitVec 32 := Scalar.subi v109 v132
  let c2_i32_79 : BitVec 32 := 2#32
  let v157 : BitVec 32 := Scalar.shrsi v133 c2_i32_79
  let c2_i32_80 : BitVec 32 := 2#32
  let v158 : BitVec 32 := Scalar.shli v157 c2_i32_80
  let v159 : BitVec 32 := Scalar.addi v135 v158
  let v171 : BitVec 32 := Scalar.addi v29 v159
  let c0_i32_91_r23 : BitVec 32 := 0#32
  ![v18.toNat, v171.toNat, 0]
def k0_cond10 (i : grid0.Coords) (v34 : BitVec 32) (v36 : BitVec 32) : BitVec 1 :=
  let c2048_i32_49 : BitVec 32 := 2048#32
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let v109 : BitVec 32 := Scalar.subi c2048_i32_49 v40
  let c0_i32_51 : BitVec 32 := 0#32
  let v111 : BitVec 1 := Scalar.cmpi .sgt v109 c0_i32_51
  let v112 : BitVec 32 := Scalar.extui v111
  let c0_i32_52 : BitVec 32 := 0#32
  let v113 : BitVec 1 := Scalar.cmpi .slt v109 c0_i32_52
  let v114 : BitVec 32 := Scalar.extui v113
  let v115 : BitVec 32 := Scalar.subi v112 v114
  let c32_i32_50 : BitVec 32 := 32#32
  let c0_i32_53 : BitVec 32 := 0#32
  let v116 : BitVec 1 := Scalar.cmpi .sgt c32_i32_50 c0_i32_53
  let v117 : BitVec 32 := Scalar.extui v116
  let c0_i32_54 : BitVec 32 := 0#32
  let v118 : BitVec 1 := Scalar.cmpi .slt c32_i32_50 c0_i32_54
  let v119 : BitVec 32 := Scalar.extui v118
  let v120 : BitVec 32 := Scalar.subi v117 v119
  let v121 : BitVec 1 := Scalar.cmpi .ne v115 v120
  let v122 : BitVec 32 := Scalar.remsi v109 c32_i32_50
  let c0_i32_55 : BitVec 32 := 0#32
  let v123 : BitVec 1 := Scalar.cmpi .ne v122 c0_i32_55
  let v124 : BitVec 1 := Scalar.andi v121 v123
  let v110 : BitVec 32 := Scalar.divsi v109 c32_i32_50
  let c1_i32_56 : BitVec 32 := 1#32
  let v125 : BitVec 32 := Scalar.subi v110 c1_i32_56
  let v126 : BitVec 32 := Scalar.select v124 v125 v110
  let c32_i32_62 : BitVec 32 := 32#32
  let v132 : BitVec 32 := Scalar.muli v126 c32_i32_62
  let v133 : BitVec 32 := Scalar.subi v109 v132
  let c2_i32_81 : BitVec 32 := 2#32
  let v160 : BitVec 32 := Scalar.andi v133 c2_i32_81
  let c0_i32_82 : BitVec 32 := 0#32
  let v161 : BitVec 1 := Scalar.cmpi .ne v160 c0_i32_82
  let v162 : BitVec 32 := Scalar.extui v161
  let c0_i32_83 : BitVec 32 := 0#32
  let v163 : BitVec 1 := Scalar.cmpi .ne v162 c0_i32_83
  v163

def k0_off24 (i : grid0.Coords) (v34 : BitVec 32) (v36 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2048_i32_12 : BitVec 32 := 2048#32
  let c0_i32_11 : BitVec 32 := 0#32
  let v37 : BitVec 32 := Scalar.subi v36 v34
  let v38 : BitVec 32 := Scalar.subi v37 v29
  let v39 : BitVec 32 := Scalar.maxsi c0_i32_11 v38
  let v40 : BitVec 32 := Scalar.minsi c2048_i32_12 v39
  let c2048_i32_49 : BitVec 32 := 2048#32
  let v109 : BitVec 32 := Scalar.subi c2048_i32_49 v40
  let c0_i32_51 : BitVec 32 := 0#32
  let v111 : BitVec 1 := Scalar.cmpi .sgt v109 c0_i32_51
  let v112 : BitVec 32 := Scalar.extui v111
  let c0_i32_52 : BitVec 32 := 0#32
  let v113 : BitVec 1 := Scalar.cmpi .slt v109 c0_i32_52
  let v114 : BitVec 32 := Scalar.extui v113
  let v115 : BitVec 32 := Scalar.subi v112 v114
  let c32_i32_50 : BitVec 32 := 32#32
  let c0_i32_53 : BitVec 32 := 0#32
  let v116 : BitVec 1 := Scalar.cmpi .sgt c32_i32_50 c0_i32_53
  let v117 : BitVec 32 := Scalar.extui v116
  let c0_i32_54 : BitVec 32 := 0#32
  let v118 : BitVec 1 := Scalar.cmpi .slt c32_i32_50 c0_i32_54
  let v119 : BitVec 32 := Scalar.extui v118
  let v120 : BitVec 32 := Scalar.subi v117 v119
  let v121 : BitVec 1 := Scalar.cmpi .ne v115 v120
  let v122 : BitVec 32 := Scalar.remsi v109 c32_i32_50
  let c0_i32_55 : BitVec 32 := 0#32
  let v123 : BitVec 1 := Scalar.cmpi .ne v122 c0_i32_55
  let v124 : BitVec 1 := Scalar.andi v121 v123
  let v110 : BitVec 32 := Scalar.divsi v109 c32_i32_50
  let c1_i32_56 : BitVec 32 := 1#32
  let v125 : BitVec 32 := Scalar.subi v110 c1_i32_56
  let v126 : BitVec 32 := Scalar.select v124 v125 v110
  let c32_i32_63 : BitVec 32 := 32#32
  let v134 : BitVec 32 := Scalar.muli v126 c32_i32_63
  let v135 : BitVec 32 := Scalar.addi v40 v134
  let c32_i32_62 : BitVec 32 := 32#32
  let v132 : BitVec 32 := Scalar.muli v126 c32_i32_62
  let v133 : BitVec 32 := Scalar.subi v109 v132
  let c1_i32_84 : BitVec 32 := 1#32
  let v164 : BitVec 32 := Scalar.shrsi v133 c1_i32_84
  let c1_i32_85 : BitVec 32 := 1#32
  let v165 : BitVec 32 := Scalar.shli v164 c1_i32_85
  let v166 : BitVec 32 := Scalar.addi v135 v165
  let v171 : BitVec 32 := Scalar.addi v29 v166
  let c0_i32_91_r24 : BitVec 32 := 0#32
  ![v18.toNat, v171.toNat, 0]
def k0_cond11 (i : grid0.Coords) (v34 : BitVec 32) (v36 : BitVec 32) : BitVec 1 :=
  let c2048_i32_49 : BitVec 32 := 2048#32
  let c2048_i32_12 : BitVec 32 := 2048#32
  let c0_i32_11 : BitVec 32 := 0#32
  let v37 : BitVec 32 := Scalar.subi v36 v34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v38 : BitVec 32 := Scalar.subi v37 v29
  let v39 : BitVec 32 := Scalar.maxsi c0_i32_11 v38
  let v40 : BitVec 32 := Scalar.minsi c2048_i32_12 v39
  let v109 : BitVec 32 := Scalar.subi c2048_i32_49 v40
  let c0_i32_51 : BitVec 32 := 0#32
  let v111 : BitVec 1 := Scalar.cmpi .sgt v109 c0_i32_51
  let v112 : BitVec 32 := Scalar.extui v111
  let c0_i32_52 : BitVec 32 := 0#32
  let v113 : BitVec 1 := Scalar.cmpi .slt v109 c0_i32_52
  let v114 : BitVec 32 := Scalar.extui v113
  let v115 : BitVec 32 := Scalar.subi v112 v114
  let c32_i32_50 : BitVec 32 := 32#32
  let c0_i32_53 : BitVec 32 := 0#32
  let v116 : BitVec 1 := Scalar.cmpi .sgt c32_i32_50 c0_i32_53
  let v117 : BitVec 32 := Scalar.extui v116
  let c0_i32_54 : BitVec 32 := 0#32
  let v118 : BitVec 1 := Scalar.cmpi .slt c32_i32_50 c0_i32_54
  let v119 : BitVec 32 := Scalar.extui v118
  let v120 : BitVec 32 := Scalar.subi v117 v119
  let v121 : BitVec 1 := Scalar.cmpi .ne v115 v120
  let v122 : BitVec 32 := Scalar.remsi v109 c32_i32_50
  let c0_i32_55 : BitVec 32 := 0#32
  let v123 : BitVec 1 := Scalar.cmpi .ne v122 c0_i32_55
  let v124 : BitVec 1 := Scalar.andi v121 v123
  let v110 : BitVec 32 := Scalar.divsi v109 c32_i32_50
  let c1_i32_56 : BitVec 32 := 1#32
  let v125 : BitVec 32 := Scalar.subi v110 c1_i32_56
  let v126 : BitVec 32 := Scalar.select v124 v125 v110
  let c32_i32_62 : BitVec 32 := 32#32
  let v132 : BitVec 32 := Scalar.muli v126 c32_i32_62
  let v133 : BitVec 32 := Scalar.subi v109 v132
  let c1_i32_86 : BitVec 32 := 1#32
  let v167 : BitVec 32 := Scalar.andi v133 c1_i32_86
  let c0_i32_87 : BitVec 32 := 0#32
  let v168 : BitVec 1 := Scalar.cmpi .ne v167 c0_i32_87
  let v169 : BitVec 32 := Scalar.extui v168
  let c0_i32_88 : BitVec 32 := 0#32
  let v170 : BitVec 1 := Scalar.cmpi .ne v169 c0_i32_88
  v170

def k0_chk1 (i : grid0.Coords) (v34 : BitVec 32) (v36 : BitVec 32) : Prop :=
  ((k0_t1_loop i v34 v36).OK) ∧
  (∀ k0_t1 : Fin (k0_t1_loop i v34 v36).trips, ∀ a, (k0_off2 i v34 v36 k0_t1) a + S64x1024.size a ≤ S32768x1024.size a) ∧
  (∀ k0_t1 : Fin (k0_t1_loop i v34 v36).trips, ∀ a, (k0_off3 i v34 v36 k0_t1) a + S1x64x1024.size a ≤ S16x4096x1024.size a) ∧
  ((k0_t2_loop i v34 v36).OK) ∧
  (∀ k0_t2 : Fin (k0_t2_loop i v34 v36).trips, ∀ a, (k0_off4 i v34 v36 k0_t2) a + S64x1024.size a ≤ S32768x1024.size a) ∧
  (∀ k0_t2 : Fin (k0_t2_loop i v34 v36).trips, ∀ a, (k0_off5 i v34 v36 k0_t2) a + S1x64x1024.size a ≤ S16x4096x1024.size a) ∧
  (∀ (k0_h1 : k0_cond1 i v34 v36 = 1#1), ∀ a, (k0_off6 i v34 v36) a + S32x1024.size a ≤ S32768x1024.size a) ∧
  (∀ (k0_h1 : k0_cond1 i v34 v36 = 1#1), ∀ a, (k0_off7 i v34 v36) a + S1x32x1024.size a ≤ S16x4096x1024.size a) ∧
  (∀ (k0_h2 : k0_cond2 i v34 v36 = 1#1), ∀ a, (k0_off8 i v34 v36) a + S16x1024.size a ≤ S32768x1024.size a) ∧
  (∀ (k0_h2 : k0_cond2 i v34 v36 = 1#1), ∀ a, (k0_off9 i v34 v36) a + S1x16x1024.size a ≤ S16x4096x1024.size a) ∧
  (∀ (k0_h3 : k0_cond3 i v34 v36 = 1#1), ∀ a, (k0_off10 i v34 v36) a + S8x1024.size a ≤ S32768x1024.size a) ∧
  (∀ (k0_h3 : k0_cond3 i v34 v36 = 1#1), ∀ a, (k0_off11 i v34 v36) a + S1x8x1024.size a ≤ S16x4096x1024.size a) ∧
  (∀ (k0_h4 : k0_cond4 i v34 v36 = 1#1), ∀ a, (k0_off12 i v34 v36) a + S4x1024.size a ≤ S32768x1024.size a) ∧
  (∀ (k0_h4 : k0_cond4 i v34 v36 = 1#1), ∀ a, (k0_off13 i v34 v36) a + S1x4x1024.size a ≤ S16x4096x1024.size a) ∧
  (∀ (k0_h5 : k0_cond5 i v34 v36 = 1#1), ∀ a, (k0_off14 i v34 v36) a + S2x1024.size a ≤ S32768x1024.size a) ∧
  (∀ (k0_h5 : k0_cond5 i v34 v36 = 1#1), ∀ a, (k0_off15 i v34 v36) a + S1x2x1024.size a ≤ S16x4096x1024.size a) ∧
  (∀ (k0_h6 : k0_cond6 i v34 v36 = 1#1), ∀ a, (k0_off16 i v34 v36) a + S1x1024.size a ≤ S32768x1024.size a) ∧
  (∀ (k0_h6 : k0_cond6 i v34 v36 = 1#1), ∀ a, (k0_off17 i v34 v36) a + S1x1x1024.size a ≤ S16x4096x1024.size a) ∧
  ((k0_t3_loop i v34 v36).OK) ∧
  (∀ k0_t3 : Fin (k0_t3_loop i v34 v36).trips, ∀ a, (k0_off18 i v34 v36 k0_t3) a + S1x32x1024.size a ≤ S16x4096x1024.size a) ∧
  ((k0_t4_loop i v34 v36).OK) ∧
  (∀ k0_t4 : Fin (k0_t4_loop i v34 v36).trips, ∀ a, (k0_off19 i v34 v36 k0_t4) a + S1x32x1024.size a ≤ S16x4096x1024.size a) ∧
  (∀ (k0_h7 : k0_cond7 i v34 v36 = 1#1), ∀ a, (k0_off20 i v34 v36) a + S1x16x1024.size a ≤ S16x4096x1024.size a) ∧
  (∀ (k0_h8 : k0_cond8 i v34 v36 = 1#1), ∀ a, (k0_off21 i v34 v36) a + S1x8x1024.size a ≤ S16x4096x1024.size a) ∧
  (∀ (k0_h9 : k0_cond9 i v34 v36 = 1#1), ∀ a, (k0_off22 i v34 v36) a + S1x4x1024.size a ≤ S16x4096x1024.size a) ∧
  (∀ (k0_h10 : k0_cond10 i v34 v36 = 1#1), ∀ a, (k0_off23 i v34 v36) a + S1x2x1024.size a ≤ S16x4096x1024.size a) ∧
  (∀ (k0_h11 : k0_cond11 i v34 v36 = 1#1), ∀ a, (k0_off24 i v34 v36) a + S1x1x1024.size a ≤ S16x4096x1024.size a)
theorem k0_t1_ok : ∀ (i : grid0.Coords) (v34 : BitVec 32) (v36 : BitVec 32) (k0_hw1 : k0_chk1 i v34 v36), (k0_t1_loop i v34 v36).OK := fun i v34 v36 k0_hw1 => k0_hw1.1
theorem k0_off2_inb : ∀ (i : grid0.Coords) (v34 : BitVec 32) (v36 : BitVec 32) (k0_hw1 : k0_chk1 i v34 v36) (k0_t1 : Fin (k0_t1_loop i v34 v36).trips), ∀ a, (k0_off2 i v34 v36 k0_t1) a + S64x1024.size a ≤ S32768x1024.size a := fun i v34 v36 k0_hw1 k0_t1 => k0_hw1.2.1 k0_t1
theorem k0_off3_inb : ∀ (i : grid0.Coords) (v34 : BitVec 32) (v36 : BitVec 32) (k0_hw1 : k0_chk1 i v34 v36) (k0_t1 : Fin (k0_t1_loop i v34 v36).trips), ∀ a, (k0_off3 i v34 v36 k0_t1) a + S1x64x1024.size a ≤ S16x4096x1024.size a := fun i v34 v36 k0_hw1 k0_t1 => k0_hw1.2.2.1 k0_t1
theorem k0_t2_ok : ∀ (i : grid0.Coords) (v34 : BitVec 32) (v36 : BitVec 32) (k0_hw1 : k0_chk1 i v34 v36), (k0_t2_loop i v34 v36).OK := fun i v34 v36 k0_hw1 => k0_hw1.2.2.2.1
theorem k0_off4_inb : ∀ (i : grid0.Coords) (v34 : BitVec 32) (v36 : BitVec 32) (k0_hw1 : k0_chk1 i v34 v36) (k0_t2 : Fin (k0_t2_loop i v34 v36).trips), ∀ a, (k0_off4 i v34 v36 k0_t2) a + S64x1024.size a ≤ S32768x1024.size a := fun i v34 v36 k0_hw1 k0_t2 => k0_hw1.2.2.2.2.1 k0_t2
theorem k0_off5_inb : ∀ (i : grid0.Coords) (v34 : BitVec 32) (v36 : BitVec 32) (k0_hw1 : k0_chk1 i v34 v36) (k0_t2 : Fin (k0_t2_loop i v34 v36).trips), ∀ a, (k0_off5 i v34 v36 k0_t2) a + S1x64x1024.size a ≤ S16x4096x1024.size a := fun i v34 v36 k0_hw1 k0_t2 => k0_hw1.2.2.2.2.2.1 k0_t2
theorem k0_off6_inb : ∀ (i : grid0.Coords) (v34 : BitVec 32) (v36 : BitVec 32) (k0_hw1 : k0_chk1 i v34 v36), ∀ (k0_h1 : k0_cond1 i v34 v36 = 1#1), ∀ a, (k0_off6 i v34 v36) a + S32x1024.size a ≤ S32768x1024.size a := fun i v34 v36 k0_hw1 k0_h1 => k0_hw1.2.2.2.2.2.2.1 k0_h1
theorem k0_off7_inb : ∀ (i : grid0.Coords) (v34 : BitVec 32) (v36 : BitVec 32) (k0_hw1 : k0_chk1 i v34 v36), ∀ (k0_h1 : k0_cond1 i v34 v36 = 1#1), ∀ a, (k0_off7 i v34 v36) a + S1x32x1024.size a ≤ S16x4096x1024.size a := fun i v34 v36 k0_hw1 k0_h1 => k0_hw1.2.2.2.2.2.2.2.1 k0_h1
theorem k0_off8_inb : ∀ (i : grid0.Coords) (v34 : BitVec 32) (v36 : BitVec 32) (k0_hw1 : k0_chk1 i v34 v36), ∀ (k0_h2 : k0_cond2 i v34 v36 = 1#1), ∀ a, (k0_off8 i v34 v36) a + S16x1024.size a ≤ S32768x1024.size a := fun i v34 v36 k0_hw1 k0_h2 => k0_hw1.2.2.2.2.2.2.2.2.1 k0_h2
theorem k0_off9_inb : ∀ (i : grid0.Coords) (v34 : BitVec 32) (v36 : BitVec 32) (k0_hw1 : k0_chk1 i v34 v36), ∀ (k0_h2 : k0_cond2 i v34 v36 = 1#1), ∀ a, (k0_off9 i v34 v36) a + S1x16x1024.size a ≤ S16x4096x1024.size a := fun i v34 v36 k0_hw1 k0_h2 => k0_hw1.2.2.2.2.2.2.2.2.2.1 k0_h2
theorem k0_off10_inb : ∀ (i : grid0.Coords) (v34 : BitVec 32) (v36 : BitVec 32) (k0_hw1 : k0_chk1 i v34 v36), ∀ (k0_h3 : k0_cond3 i v34 v36 = 1#1), ∀ a, (k0_off10 i v34 v36) a + S8x1024.size a ≤ S32768x1024.size a := fun i v34 v36 k0_hw1 k0_h3 => k0_hw1.2.2.2.2.2.2.2.2.2.2.1 k0_h3
theorem k0_off11_inb : ∀ (i : grid0.Coords) (v34 : BitVec 32) (v36 : BitVec 32) (k0_hw1 : k0_chk1 i v34 v36), ∀ (k0_h3 : k0_cond3 i v34 v36 = 1#1), ∀ a, (k0_off11 i v34 v36) a + S1x8x1024.size a ≤ S16x4096x1024.size a := fun i v34 v36 k0_hw1 k0_h3 => k0_hw1.2.2.2.2.2.2.2.2.2.2.2.1 k0_h3
theorem k0_off12_inb : ∀ (i : grid0.Coords) (v34 : BitVec 32) (v36 : BitVec 32) (k0_hw1 : k0_chk1 i v34 v36), ∀ (k0_h4 : k0_cond4 i v34 v36 = 1#1), ∀ a, (k0_off12 i v34 v36) a + S4x1024.size a ≤ S32768x1024.size a := fun i v34 v36 k0_hw1 k0_h4 => k0_hw1.2.2.2.2.2.2.2.2.2.2.2.2.1 k0_h4
theorem k0_off13_inb : ∀ (i : grid0.Coords) (v34 : BitVec 32) (v36 : BitVec 32) (k0_hw1 : k0_chk1 i v34 v36), ∀ (k0_h4 : k0_cond4 i v34 v36 = 1#1), ∀ a, (k0_off13 i v34 v36) a + S1x4x1024.size a ≤ S16x4096x1024.size a := fun i v34 v36 k0_hw1 k0_h4 => k0_hw1.2.2.2.2.2.2.2.2.2.2.2.2.2.1 k0_h4
theorem k0_off14_inb : ∀ (i : grid0.Coords) (v34 : BitVec 32) (v36 : BitVec 32) (k0_hw1 : k0_chk1 i v34 v36), ∀ (k0_h5 : k0_cond5 i v34 v36 = 1#1), ∀ a, (k0_off14 i v34 v36) a + S2x1024.size a ≤ S32768x1024.size a := fun i v34 v36 k0_hw1 k0_h5 => k0_hw1.2.2.2.2.2.2.2.2.2.2.2.2.2.2.1 k0_h5
theorem k0_off15_inb : ∀ (i : grid0.Coords) (v34 : BitVec 32) (v36 : BitVec 32) (k0_hw1 : k0_chk1 i v34 v36), ∀ (k0_h5 : k0_cond5 i v34 v36 = 1#1), ∀ a, (k0_off15 i v34 v36) a + S1x2x1024.size a ≤ S16x4096x1024.size a := fun i v34 v36 k0_hw1 k0_h5 => k0_hw1.2.2.2.2.2.2.2.2.2.2.2.2.2.2.2.1 k0_h5
theorem k0_off16_inb : ∀ (i : grid0.Coords) (v34 : BitVec 32) (v36 : BitVec 32) (k0_hw1 : k0_chk1 i v34 v36), ∀ (k0_h6 : k0_cond6 i v34 v36 = 1#1), ∀ a, (k0_off16 i v34 v36) a + S1x1024.size a ≤ S32768x1024.size a := fun i v34 v36 k0_hw1 k0_h6 => k0_hw1.2.2.2.2.2.2.2.2.2.2.2.2.2.2.2.2.1 k0_h6
theorem k0_off17_inb : ∀ (i : grid0.Coords) (v34 : BitVec 32) (v36 : BitVec 32) (k0_hw1 : k0_chk1 i v34 v36), ∀ (k0_h6 : k0_cond6 i v34 v36 = 1#1), ∀ a, (k0_off17 i v34 v36) a + S1x1x1024.size a ≤ S16x4096x1024.size a := fun i v34 v36 k0_hw1 k0_h6 => k0_hw1.2.2.2.2.2.2.2.2.2.2.2.2.2.2.2.2.2.1 k0_h6
theorem k0_t3_ok : ∀ (i : grid0.Coords) (v34 : BitVec 32) (v36 : BitVec 32) (k0_hw1 : k0_chk1 i v34 v36), (k0_t3_loop i v34 v36).OK := fun i v34 v36 k0_hw1 => k0_hw1.2.2.2.2.2.2.2.2.2.2.2.2.2.2.2.2.2.2.1
theorem k0_off18_inb : ∀ (i : grid0.Coords) (v34 : BitVec 32) (v36 : BitVec 32) (k0_hw1 : k0_chk1 i v34 v36) (k0_t3 : Fin (k0_t3_loop i v34 v36).trips), ∀ a, (k0_off18 i v34 v36 k0_t3) a + S1x32x1024.size a ≤ S16x4096x1024.size a := fun i v34 v36 k0_hw1 k0_t3 => k0_hw1.2.2.2.2.2.2.2.2.2.2.2.2.2.2.2.2.2.2.2.1 k0_t3
theorem k0_t4_ok : ∀ (i : grid0.Coords) (v34 : BitVec 32) (v36 : BitVec 32) (k0_hw1 : k0_chk1 i v34 v36), (k0_t4_loop i v34 v36).OK := fun i v34 v36 k0_hw1 => k0_hw1.2.2.2.2.2.2.2.2.2.2.2.2.2.2.2.2.2.2.2.2.1
theorem k0_off19_inb : ∀ (i : grid0.Coords) (v34 : BitVec 32) (v36 : BitVec 32) (k0_hw1 : k0_chk1 i v34 v36) (k0_t4 : Fin (k0_t4_loop i v34 v36).trips), ∀ a, (k0_off19 i v34 v36 k0_t4) a + S1x32x1024.size a ≤ S16x4096x1024.size a := fun i v34 v36 k0_hw1 k0_t4 => k0_hw1.2.2.2.2.2.2.2.2.2.2.2.2.2.2.2.2.2.2.2.2.2.1 k0_t4
theorem k0_off20_inb : ∀ (i : grid0.Coords) (v34 : BitVec 32) (v36 : BitVec 32) (k0_hw1 : k0_chk1 i v34 v36), ∀ (k0_h7 : k0_cond7 i v34 v36 = 1#1), ∀ a, (k0_off20 i v34 v36) a + S1x16x1024.size a ≤ S16x4096x1024.size a := fun i v34 v36 k0_hw1 k0_h7 => k0_hw1.2.2.2.2.2.2.2.2.2.2.2.2.2.2.2.2.2.2.2.2.2.2.1 k0_h7
theorem k0_off21_inb : ∀ (i : grid0.Coords) (v34 : BitVec 32) (v36 : BitVec 32) (k0_hw1 : k0_chk1 i v34 v36), ∀ (k0_h8 : k0_cond8 i v34 v36 = 1#1), ∀ a, (k0_off21 i v34 v36) a + S1x8x1024.size a ≤ S16x4096x1024.size a := fun i v34 v36 k0_hw1 k0_h8 => k0_hw1.2.2.2.2.2.2.2.2.2.2.2.2.2.2.2.2.2.2.2.2.2.2.2.1 k0_h8
theorem k0_off22_inb : ∀ (i : grid0.Coords) (v34 : BitVec 32) (v36 : BitVec 32) (k0_hw1 : k0_chk1 i v34 v36), ∀ (k0_h9 : k0_cond9 i v34 v36 = 1#1), ∀ a, (k0_off22 i v34 v36) a + S1x4x1024.size a ≤ S16x4096x1024.size a := fun i v34 v36 k0_hw1 k0_h9 => k0_hw1.2.2.2.2.2.2.2.2.2.2.2.2.2.2.2.2.2.2.2.2.2.2.2.2.1 k0_h9
theorem k0_off23_inb : ∀ (i : grid0.Coords) (v34 : BitVec 32) (v36 : BitVec 32) (k0_hw1 : k0_chk1 i v34 v36), ∀ (k0_h10 : k0_cond10 i v34 v36 = 1#1), ∀ a, (k0_off23 i v34 v36) a + S1x2x1024.size a ≤ S16x4096x1024.size a := fun i v34 v36 k0_hw1 k0_h10 => k0_hw1.2.2.2.2.2.2.2.2.2.2.2.2.2.2.2.2.2.2.2.2.2.2.2.2.2.1 k0_h10
theorem k0_off24_inb : ∀ (i : grid0.Coords) (v34 : BitVec 32) (v36 : BitVec 32) (k0_hw1 : k0_chk1 i v34 v36), ∀ (k0_h11 : k0_cond11 i v34 v36 = 1#1), ∀ a, (k0_off24 i v34 v36) a + S1x1x1024.size a ≤ S16x4096x1024.size a := fun i v34 v36 k0_hw1 k0_h11 => k0_hw1.2.2.2.2.2.2.2.2.2.2.2.2.2.2.2.2.2.2.2.2.2.2.2.2.2.2 k0_h11

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x1024 : Shape := ⟨2, ![32768, 1024]⟩
abbrev S17 : Shape := ⟨1, ![17]⟩
abbrev S32768 : Shape := ⟨1, ![32768]⟩
abbrev S1x17 : Shape := ⟨2, ![1, 17]⟩
abbrev S32768x1 : Shape := ⟨2, ![32768, 1]⟩
abbrev S32768x17 : Shape := ⟨2, ![32768, 17]⟩
abbrev S_ : Shape := ⟨0, ![]⟩
abbrev S16x4096x1024 : Shape := ⟨3, ![16, 4096, 1024]⟩
abbrev S32768x2 : Shape := ⟨2, ![32768, 2]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S17, .i32⟩
  | .hbm, ⟨2, _⟩ => ⟨S32768, .i32⟩
  | .hbm, ⟨3, _⟩ => ⟨S1x17, .i32⟩
  | .hbm, ⟨4, _⟩ => ⟨S32768x1, .i32⟩
  | .hbm, ⟨5, _⟩ => ⟨S32768x17, .i32⟩
  | .hbm, ⟨6, _⟩ => ⟨S32768x17, .i32⟩
  | .hbm, ⟨7, _⟩ => ⟨S32768x17, .i1⟩
  | .hbm, ⟨8, _⟩ => ⟨S32768x17, .i32⟩
  | .hbm, ⟨9, _⟩ => ⟨S_, .i32⟩
  | .hbm, ⟨10, _⟩ => ⟨S32768, .i32⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S32768, .i32⟩
  | .hbm, ⟨18, _⟩ => ⟨S32768, .i32⟩
  | .hbm, ⟨19, _⟩ => ⟨S_, .i32⟩
  | .hbm, ⟨20, _⟩ => ⟨S32768, .i32⟩
  | .hbm, ⟨21, _⟩ => ⟨S32768, .i32⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S32768x1, .i32⟩
  | .hbm, ⟨30, _⟩ => ⟨S32768, .i32⟩
  | .hbm, ⟨31, _⟩ => ⟨S32768, .i32⟩
  | .hbm, ⟨32, _⟩ => ⟨S_, .f32⟩
  | .hbm, ⟨33, _⟩ => ⟨S16x4096x1024, .f32⟩
  | .hbm, ⟨34, _⟩ => ⟨S_, .i32⟩
  | .hbm, ⟨35, _⟩ => ⟨S32768, .i32⟩
  | .hbm, ⟨36, _⟩ => ⟨S32768, .i1⟩
  | .hbm, ⟨37, _⟩ => ⟨S_, .i32⟩
  | .hbm, ⟨38, _⟩ => ⟨S32768, .i32⟩
  | .hbm, ⟨39, _⟩ => ⟨S32768, .i32⟩
  | .hbm, ⟨40, _⟩ => ⟨S32768, .i32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S_, .i32⟩
  | .hbm, ⟨45, _⟩ => ⟨S32768, .i32⟩
  | .hbm, ⟨46, _⟩ => ⟨S32768, .i32⟩
  | .hbm, ⟨47, _⟩ => ⟨S32768, .i32⟩
  | .hbm, ⟨48, _⟩ => ⟨S32768x1, .i32⟩
  | .hbm, ⟨49, _⟩ => ⟨S32768x1, .i32⟩
  | .hbm, ⟨50, _⟩ => ⟨S32768x2, .i32⟩
  | .hbm, ⟨51, _⟩ => ⟨S16x4096x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Proof.Words.lean ====
module

public import Idealize.ShloMosaic.Lib.Affine
public import Idealize.ShloMosaic.Lib.LoopRemainder
public import Mathlib.Data.Nat.Bitwise
public import Mathlib.Tactic.Ring
public import Mathlib.Tactic.Positivity

/-!
# The words a tile computes

A tile of the padding kernel works out, from its two grid coordinates and two neighbouring segment
bounds, how many rows it copies and how many it fills with zeros. The definitions here are those
computations on 32-bit words; the theorems say which integers the words are.
-/

@[expose] public section

namespace Cert.Proof.Words

open Idealize Idealize.ShloMosaic Idealize.ShloMosaic.Affine

/-- Division rounding down, as the kernel spells it on words. -/
def fdiv (x k : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt k 0#32)) (Scalar.extui (Scalar.cmpi .slt k 0#32))))
      (Scalar.cmpi .ne (Scalar.remsi x k) 0#32))
    (Scalar.subi (Scalar.divsi x k) 1#32) (Scalar.divsi x k)

/-- Remainder with the divisor's sign, as the kernel spells it on words. -/
def fmod (x k : BitVec 32) : BitVec 32 :=
  let k' := Scalar.select (Scalar.cmpi .eq k 0#32) 1#32 k
  let r := Scalar.remsi x k'
  Scalar.select
    (Scalar.andi (Scalar.xori (Scalar.cmpi .slt r 0#32) (Scalar.cmpi .slt k' 0#32)) (Scalar.cmpi .ne r 0#32))
    (Scalar.addi r k') r

/-- The worker number of subcore `s` on core `c`. -/
def wid (s c : ℕ) : BitVec 32 := Scalar.addi (Scalar.muli (BitVec.ofNat 32 s) 2#32) (BitVec.ofNat 32 c)
/-- The batch entry a worker serves. -/
def batchW (s c : ℕ) : BitVec 32 := fdiv (wid s c) 2#32
/-- The first output row a worker fills. -/
def halfW (s c : ℕ) : BitVec 32 := Scalar.muli (fmod (wid s c) 2#32) 2048#32
/-- The number of rows a worker copies, from its segment's two bounds. -/
def validW (s c : ℕ) (a e : BitVec 32) : BitVec 32 :=
  Scalar.minsi 2048#32 (Scalar.maxsi 0#32 (Scalar.subi (Scalar.subi e a) (halfW s c)))
/-- The number of rows a worker fills with zeros. -/
def zeroW (s c : ℕ) (a e : BitVec 32) : BitVec 32 := Scalar.subi 2048#32 (validW s c a e)
/-- What is left of a count `x` after whole chunks of `k` rows. -/
def restW (x k : BitVec 32) : BitVec 32 := Scalar.subi x (Scalar.muli (fdiv x k) k)
/-- The rows before the step whose size is half of `2 ^ n`, counted from the tail's base. -/
def tailW (x k n : BitVec 32) : BitVec 32 := Scalar.shli (Scalar.shrsi (restW x k) n) n
/-- Whether the tail's step of `b` rows is taken. -/
def bitW (x k b : BitVec 32) : BitVec 1 :=
  Scalar.cmpi .ne (Scalar.extui (Scalar.cmpi .ne (Scalar.andi (restW x k) b) 0#32) : BitVec 32) 0#32
/-- The trip count's upper bound of a loop over whole chunks of `k` rows. -/
def chunksW (x k : BitVec 32) : BitVec 32 :=
  Scalar.addi 0#32 (Scalar.muli (Scalar.divsi (Scalar.subi (fdiv x k) 0#32) 1#32) 1#32)
/-- The upper bound the loop's source gives. -/
def chunksUpW (x k : BitVec 32) : BitVec 32 := Scalar.addi 0#32 (Scalar.subi (fdiv x k) 0#32)

/-! ## Integers the words are -/

/-- A word's natural value from its integer value. -/
theorem nat_of {x : BitVec 32} {e : Int} {n : ℕ} (h : IsInt x e) (he : e = n) : x.toNat = n := by
  subst he; exact_mod_cast toNat_of h (by omega)

theorem lit (n : ℕ) (h : n < 2 ^ 31) : IsInt (BitVec.ofNat 32 n) n := Affine.ofNat n ⟨rfl, h⟩

/-- A word whose natural value is small is that integer. -/
theorem isInt_toNat (x : BitVec 32) (h : x.toNat < 2 ^ 31) : IsInt x x.toNat := by
  have := lit x.toNat h
  rwa [BitVec.ofNat_toNat, BitVec.setWidth_eq] at this

theorem fdiv_isInt {x k : BitVec 32} {ex ek e : Int} (hx : IsInt x ex) (hk : IsInt k ek)
    (h : e = ex / ek) (h0 : 0 ≤ ex) (hk0 : 0 < ek) : IsInt (fdiv x k) e := by
  have z : IsInt (0#32) 0 := lit 0 (by decide)
  have hd := divsi hx hk ⟨h, h0, hk0⟩
  have ho : IsInt (1#32) 1 := lit 1 (by decide)
  have hsub : ∃ n, IsInt (Scalar.subi (Scalar.divsi x k) 1#32) n :=
    ⟨_, (subi_wrap hd ho).choose_spec.1⟩
  obtain ⟨n, hn⟩ := hsub
  refine select_fails ?_ hn hd rfl
  by_cases hz : ex = 0
  · refine andi_fails_right trivial (ne_fails (remsi hx hk ⟨rfl, h0, hk0⟩) z ?_)
    rw [hz, Int.zero_emod]
  · refine andi_fails_left (ne_fails
      (subi (extui_holds (sgt_holds hx z (by omega)) rfl) (extui_fails (slt_fails hx z (by omega)) rfl)
        ⟨rfl, by decide, by decide⟩)
      (subi (extui_holds (sgt_holds hk z hk0) rfl) (extui_fails (slt_fails hk z (by omega)) rfl)
        ⟨rfl, by decide, by decide⟩) rfl) trivial

theorem fmod_isInt {x k : BitVec 32} {ex ek e : Int} (hx : IsInt x ex) (hk : IsInt k ek)
    (h : e = ex % ek) (h0 : 0 ≤ ex) (hk0 : 0 < ek) : IsInt (fmod x k) e := by
  have z : IsInt (0#32) 0 := lit 0 (by decide)
  have ho : IsInt (1#32) 1 := lit 1 (by decide)
  have hk' : IsInt (Scalar.select (Scalar.cmpi .eq k 0#32) 1#32 k) ek :=
    select_fails (eq_fails hk z (by omega)) ho hk rfl
  have hr := remsi hx hk' ⟨rfl, h0, hk0⟩
  have hr0 : 0 ≤ ex % ek := Int.emod_nonneg _ (by omega)
  subst h
  obtain ⟨n, hn⟩ : ∃ n, IsInt (Scalar.addi (Scalar.remsi x (Scalar.select (Scalar.cmpi .eq k 0#32) 1#32 k))
      (Scalar.select (Scalar.cmpi .eq k 0#32) 1#32 k)) n := ⟨_, (addi_wrap hr hk').choose_spec.1⟩
  refine select_fails (andi_fails_left (xori_ff (slt_fails hr z (by omega)) (slt_fails hk' z (by omega))) trivial) hn hr rfl

theorem shli_isInt {x : BitVec 32} {ex e : Int} (n : ℕ) (hn : n < 32) (hx : IsInt x ex) (h0 : 0 ≤ ex)
    (h : e = ex * 2 ^ n) (hb : ex * 2 ^ n < 2 ^ 31) : IsInt (Scalar.shli x (BitVec.ofNat 32 n)) e := by
  obtain ⟨m, rfl⟩ := Int.eq_ofNat_of_zero_le h0
  have hm := nat_of hx rfl
  have hb' : m * 2 ^ n < 2 ^ 31 := by exact_mod_cast hb
  have hs : Scalar.shli x (BitVec.ofNat 32 n) = BitVec.ofNat 32 (m * 2 ^ n) := by
    have hn' : (BitVec.ofNat 32 n).toNat = n := by rw [BitVec.toNat_ofNat]; exact Nat.mod_eq_of_lt (by omega)
    rw [Scalar.shli, IntOp.shli, hn', if_pos hn]
    apply BitVec.eq_of_toNat_eq
    rw [BitVec.shiftLeft_eq', hn', BitVec.toNat_shiftLeft, hm, BitVec.toNat_ofNat, Nat.shiftLeft_eq]
  rw [hs, h]
  exact Affine.ofNat _ ⟨by push_cast; rfl, hb'⟩

variable {x k : BitVec 32} {n q : ℕ}

/-- What is left after whole chunks is the remainder. -/
theorem restW_isInt (hx : IsInt x n) (hn : n ≤ 2048) (hk : IsInt k q) (hq : 0 < q) (hq' : q ≤ 64) :
    IsInt (restW x k) (n % q : ℕ) := by
  have hf : IsInt (fdiv x k) (n / q : ℕ) := fdiv_isInt hx hk (by push_cast; rfl) (by omega) (by omega)
  have h1 : n / q * q ≤ n := Nat.div_mul_le_self n q
  have hm : IsInt (Scalar.muli (fdiv x k) k) (n / q * q : ℕ) :=
    muli hf hk ⟨by push_cast; rfl, by omega, by omega⟩
  refine subi hx hm ⟨?_, by omega, ?_⟩
  · have := Nat.div_add_mod' n q; omega
  · have := Nat.mod_le n q; omega

/-- The tail's rows before a step, as an integer. -/
theorem tailW_isInt (j : ℕ) (hj : j ≤ 6) (hx : IsInt x n) (hn : n ≤ 2048) (hk : IsInt k q) (hq : 0 < q) (hq' : q ≤ 64) :
    IsInt (tailW x k (BitVec.ofNat 32 j)) (n % q / 2 ^ j * 2 ^ j : ℕ) := by
  have hr := restW_isInt hx hn hk hq hq'
  have hs : IsInt (Scalar.shrsi (restW x k) (BitVec.ofNat 32 j)) (n % q / 2 ^ j : ℕ) :=
    shrsi hr (lit j (by omega)) j _ rfl ⟨by push_cast; rfl, rfl, by omega⟩
  have h1 : n % q / 2 ^ j * 2 ^ j ≤ n % q := Nat.div_mul_le_self _ _
  have h2 := Nat.mod_le n q
  have h3 : (0 : Int) ≤ (n % q / 2 ^ j : ℕ) := Int.natCast_nonneg _
  refine shli_isInt j (by omega) hs h3 (by push_cast; rfl) ?_
  have : (((n % q / 2 ^ j * 2 ^ j : ℕ)) : Int) < 2 ^ 31 := by omega
  exact_mod_cast this

/-- Whole chunks and the tail before a step of `2 ^ j / 2` rows make the count with its last `j` bits cleared. -/
theorem clear_bits (r j : ℕ) (hj : j ≤ r) (n : ℕ) : n / 2 ^ r * 2 ^ r + n % 2 ^ r / 2 ^ j * 2 ^ j = n / 2 ^ j * 2 ^ j := by
  have hp : 2 ^ r = 2 ^ j * 2 ^ (r - j) := by rw [← pow_add]; congr 1; omega
  have h2 : n % 2 ^ r / 2 ^ j = n / 2 ^ j % 2 ^ (r - j) := by rw [hp, Nat.mod_mul_right_div_self]
  have h1 : n / 2 ^ r = n / 2 ^ j / 2 ^ (r - j) := by rw [hp, Nat.div_div_eq_div_mul]
  rw [h2, h1]
  calc _ = (n / 2 ^ j / 2 ^ (r - j) * 2 ^ (r - j) + n / 2 ^ j % 2 ^ (r - j)) * 2 ^ j := by rw [hp]; ring
    _ = _ := by rw [Nat.div_add_mod']

/-- Clearing one bit fewer adds the bit's weight when the bit is set … -/
theorem clear_step_set (n j : ℕ) (h : n / 2 ^ j % 2 = 1) : n / 2 ^ j * 2 ^ j = n / 2 ^ (j + 1) * 2 ^ (j + 1) + 2 ^ j := by
  have h1 : n / 2 ^ (j + 1) = n / 2 ^ j / 2 := by rw [pow_succ, Nat.div_div_eq_div_mul]
  have h2 := Nat.div_add_mod' (n / 2 ^ j) 2
  rw [h1]
  calc _ = (n / 2 ^ j / 2 * 2 + n / 2 ^ j % 2) * 2 ^ j := by rw [h2]
    _ = _ := by rw [h]; ring
/-- … and nothing when it is not. -/
theorem clear_step_unset (n j : ℕ) (h : ¬n / 2 ^ j % 2 = 1) : n / 2 ^ j * 2 ^ j = n / 2 ^ (j + 1) * 2 ^ (j + 1) := by
  have h1 : n / 2 ^ (j + 1) = n / 2 ^ j / 2 := by rw [pow_succ, Nat.div_div_eq_div_mul]
  have h2 := Nat.div_add_mod' (n / 2 ^ j) 2
  have h0 : n / 2 ^ j % 2 = 0 := by omega
  rw [h1]
  calc _ = (n / 2 ^ j / 2 * 2 + n / 2 ^ j % 2) * 2 ^ j := by rw [h2]
    _ = _ := by rw [h0]; ring

/-- The tail's step of `2 ^ j` rows is taken exactly when bit `j` of the count is set. -/
theorem bitW_iff (r j : ℕ) (hr : r ≤ 6) (hj : j < r) (hx : IsInt x n) (hn : n ≤ 2048) (hk : IsInt k (2 ^ r : ℕ)) :
    bitW x k (BitVec.ofNat 32 (2 ^ j)) = 1#1 ↔ n / 2 ^ j % 2 = 1 := by
  have hq : 2 ^ r ≤ 64 := Nat.pow_le_pow_right (n := 2) (by decide) hr
  have hrest := nat_of (restW_isInt hx hn hk (by positivity) hq) rfl
  have hj2 : 2 ^ j ≤ 64 := (Nat.pow_le_pow_right (n := 2) (by decide) hj.le).trans hq
  have hbit : n % 2 ^ r / 2 ^ j % 2 = n / 2 ^ j % 2 := by
    have hp : 2 ^ r = 2 ^ j * 2 ^ (r - j) := by rw [← pow_add]; congr 1; omega
    have hp2 : 2 ∣ 2 ^ (r - j) := dvd_pow_self 2 (by omega)
    rw [hp, Nat.mod_mul_right_div_self, Nat.mod_mod_of_dvd _ hp2]
  have hand : (Scalar.andi (restW x k) (BitVec.ofNat 32 (2 ^ j))).toNat = (n / 2 ^ j % 2) * 2 ^ j := by
    rw [Scalar.andi, IntOp.andi, BitVec.toNat_and, hrest, BitVec.toNat_ofNat,
      Nat.mod_eq_of_lt (show 2 ^ j < 2 ^ 32 by omega), Nat.and_two_pow, Nat.testBit_eq_decide_div_mod_eq, hbit]
    rcases Nat.mod_two_eq_zero_or_one (n / 2 ^ j) with h | h <;> simp [h]
  have z : IsInt (0#32) 0 := lit 0 (by decide)
  have hI := isInt_toNat (Scalar.andi (restW x k) (BitVec.ofNat 32 (2 ^ j))) (by
    rw [hand]; rcases Nat.mod_two_eq_zero_or_one (n / 2 ^ j) with h | h <;> rw [h] <;> omega)
  rw [hand] at hI
  constructor
  · intro h; by_contra hc
    have h0 : n / 2 ^ j % 2 = 0 := by omega
    refine ne_fails (extui_fails (ne_fails hI z ?_) rfl) z rfl h
    rw [h0]; simp
  · intro h
    refine ne_holds (extui_holds (ne_holds hI z ?_) rfl) z (by decide)
    rw [h]; positivity

/-- The chunk loop's bound. -/
theorem chunksW_isInt (hx : IsInt x n) (hn : n ≤ 2048) (hk : IsInt k q) (hq : 0 < q) :
    IsInt (chunksW x k) (n / q : ℕ) := by
  have z : IsInt (0#32) 0 := lit 0 (by decide)
  have ho : IsInt (1#32) 1 := lit 1 (by decide)
  have h1 : n / q ≤ n := Nat.div_le_self n q
  have h0 : (0 : Int) ≤ (n / q : ℕ) := Int.natCast_nonneg _
  have hf : IsInt (fdiv x k) (n / q : ℕ) := fdiv_isInt hx hk (by push_cast; rfl) (by omega) (by omega)
  have hs : IsInt (Scalar.subi (fdiv x k) 0#32) (n / q : ℕ) := subi hf z ⟨by omega, by omega, by omega⟩
  have hd : IsInt (Scalar.divsi (Scalar.subi (fdiv x k) 0#32) 1#32) (n / q : ℕ) := divsi_one hs ho ⟨rfl, rfl⟩
  have hm : IsInt (Scalar.muli (Scalar.divsi (Scalar.subi (fdiv x k) 0#32) 1#32) 1#32) (n / q : ℕ) :=
    muli hd ho ⟨by omega, by omega, by omega⟩
  exact addi z hm ⟨by omega, by omega, by omega⟩

theorem chunksUpW_isInt (hx : IsInt x n) (hn : n ≤ 2048) (hk : IsInt k q) (hq : 0 < q) :
    IsInt (chunksUpW x k) (n / q : ℕ) := by
  have z : IsInt (0#32) 0 := lit 0 (by decide)
  have h1 : n / q ≤ n := Nat.div_le_self n q
  have h0 : (0 : Int) ≤ (n / q : ℕ) := Int.natCast_nonneg _
  have hf : IsInt (fdiv x k) (n / q : ℕ) := fdiv_isInt hx hk (by push_cast; rfl) (by omega) (by omega)
  have hs : IsInt (Scalar.subi (fdiv x k) 0#32) (n / q : ℕ) := subi hf z ⟨by omega, by omega, by omega⟩
  exact addi z hs ⟨by omega, by omega, by omega⟩

/-! ## A tile's words -/

variable {s c : ℕ} {a e : BitVec 32}

theorem wid_isInt (hs : s < 16) (hc : c < 2) : IsInt (wid s c) (s * 2 + c : ℕ) :=
  addi (muli (lit s (by omega)) (lit 2 (by omega)) ⟨rfl, by omega, by omega⟩) (lit c (by omega)) ⟨by push_cast; rfl, by omega, by omega⟩
theorem batchW_isInt (hs : s < 16) (hc : c < 2) : IsInt (batchW s c) s :=
  fdiv_isInt (wid_isInt hs hc) (lit 2 (by omega)) (by omega) (by omega) (by omega)
theorem halfW_isInt (hs : s < 16) (hc : c < 2) : IsInt (halfW s c) (2048 * c : ℕ) :=
  muli (fmod_isInt (wid_isInt hs hc) (lit 2 (by omega)) (e := (c : Int)) (by omega) (by omega) (by omega)) (lit 2048 (by omega))
    ⟨by push_cast; ring, by omega, by omega⟩

/-- The number of rows a tile copies. -/
def valid (c na ne : ℕ) : ℕ := min (ne - na - 2048 * c) 2048

theorem valid_le (c na ne : ℕ) : valid c na ne ≤ 2048 := Nat.min_le_right _ _

theorem validW_isInt (hs : s < 16) (hc : c < 2) (hae : a.toNat ≤ e.toNat) (he : e.toNat ≤ 32768) :
    IsInt (validW s c a e) (valid c a.toNat e.toNat : ℕ) := by
  have ha := isInt_toNat a (by omega)
  have he' := isInt_toNat e (by omega)
  have h1 := subi he' ha ⟨rfl, by omega, by omega⟩
  have h2 := subi h1 (halfW_isInt hs hc) ⟨rfl, by omega, by omega⟩
  refine minsi (lit 2048 (by decide)) (maxsi (lit 0 (by decide)) h2 rfl) ?_
  unfold valid; omega
theorem zeroW_isInt (hs : s < 16) (hc : c < 2) (hae : a.toNat ≤ e.toNat) (he : e.toNat ≤ 32768) :
    IsInt (zeroW s c a e) (2048 - valid c a.toNat e.toNat : ℕ) :=
  have := valid_le c a.toNat e.toNat
  subi (lit 2048 (by decide)) (validW_isInt hs hc hae he) ⟨by omega, by omega, by omega⟩

/-! ## The rows a tile's copies start at -/

/-- The source row of the tail's step, with `n` the step's size as a power of two, plus one. -/
def srcW (s c : ℕ) (a e n : BitVec 32) : BitVec 32 :=
  Scalar.addi (Scalar.addi a (halfW s c)) (Scalar.addi (Scalar.muli (fdiv (validW s c a e) 64#32) 64#32) (tailW (validW s c a e) 64#32 n))
/-- The output row of the same step. -/
def dstW (s c : ℕ) (a e n : BitVec 32) : BitVec 32 :=
  Scalar.addi (halfW s c) (Scalar.addi (Scalar.muli (fdiv (validW s c a e) 64#32) 64#32) (tailW (validW s c a e) 64#32 n))
/-- The output row of a step of the zeros' tail. -/
def zeroDstW (s c : ℕ) (a e n : BitVec 32) : BitVec 32 :=
  Scalar.addi (halfW s c) (Scalar.addi (Scalar.addi (validW s c a e) (Scalar.muli (fdiv (zeroW s c a e) 32#32) 32#32)) (tailW (zeroW s c a e) 32#32 n))

/-- Whole chunks and the tail before a step, as an integer. -/
theorem doneW_isInt (r j : ℕ) (hr : r ≤ 6) (hj : j ≤ r) (hx : IsInt x n) (hn : n ≤ 2048) (hk : IsInt k (2 ^ r : ℕ)) :
    IsInt (Scalar.muli (fdiv x k) k) (n / 2 ^ r * 2 ^ r : ℕ) ∧ IsInt (tailW x k (BitVec.ofNat 32 j)) (n % 2 ^ r / 2 ^ j * 2 ^ j : ℕ) := by
  have hq : 2 ^ r ≤ 64 := Nat.pow_le_pow_right (n := 2) (by decide) hr
  have hq0 : 0 < 2 ^ r := by positivity
  refine ⟨?_, tailW_isInt j (by omega) hx hn hk hq0 hq⟩
  have h1 : n / 2 ^ r * 2 ^ r ≤ n := Nat.div_mul_le_self n _
  have h0 : (0 : Int) ≤ (n / 2 ^ r * 2 ^ r : ℕ) := Int.natCast_nonneg _
  have hf : IsInt (fdiv x k) (n / 2 ^ r : ℕ) := fdiv_isInt hx hk (by push_cast; rfl) (by omega) (by omega)
  exact muli hf hk ⟨by push_cast; rfl, by omega, by omega⟩

section Rows
variable (hs : s < 16) (hc : c < 2) (hae : a.toNat ≤ e.toNat) (he : e.toNat ≤ 32768)
include hs hc hae he

theorem srcW_nat (j : ℕ) (hj : j ≤ 6) :
    (srcW s c a e (BitVec.ofNat 32 j)).toNat = a.toNat + 2048 * c + valid c a.toNat e.toNat / 2 ^ j * 2 ^ j := by
  have hv := valid_le c a.toNat e.toNat
  obtain ⟨h1, h2⟩ := doneW_isInt 6 j le_rfl hj (validW_isInt hs hc hae he) hv (lit 64 (by decide))
  have h3 := clear_bits 6 j hj (valid c a.toNat e.toNat)
  have h4 : valid c a.toNat e.toNat / 2 ^ j * 2 ^ j ≤ valid c a.toNat e.toNat := Nat.div_mul_le_self _ _
  rw [← h3] at h4 ⊢
  generalize valid c a.toNat e.toNat / 2 ^ 6 * 2 ^ 6 = u at *
  generalize valid c a.toNat e.toNat % 2 ^ 6 / 2 ^ j * 2 ^ j = w at *
  exact nat_of (addi (addi (isInt_toNat a (by omega)) (halfW_isInt hs hc) ⟨rfl, by omega, by omega⟩)
    (addi h1 h2 ⟨rfl, by omega, by omega⟩) ⟨rfl, by omega, by omega⟩) (by push_cast; rfl)
theorem dstW_nat (j : ℕ) (hj : j ≤ 6) :
    (dstW s c a e (BitVec.ofNat 32 j)).toNat = 2048 * c + valid c a.toNat e.toNat / 2 ^ j * 2 ^ j := by
  have hv := valid_le c a.toNat e.toNat
  obtain ⟨h1, h2⟩ := doneW_isInt 6 j le_rfl hj (validW_isInt hs hc hae he) hv (lit 64 (by decide))
  have h3 := clear_bits 6 j hj (valid c a.toNat e.toNat)
  have h4 : valid c a.toNat e.toNat / 2 ^ j * 2 ^ j ≤ valid c a.toNat e.toNat := Nat.div_mul_le_self _ _
  rw [← h3] at h4 ⊢
  generalize valid c a.toNat e.toNat / 2 ^ 6 * 2 ^ 6 = u at *
  generalize valid c a.toNat e.toNat % 2 ^ 6 / 2 ^ j * 2 ^ j = w at *
  exact nat_of (addi (halfW_isInt hs hc) (addi h1 h2 ⟨rfl, by omega, by omega⟩) ⟨rfl, by omega, by omega⟩) (by push_cast; rfl)
theorem zeroDstW_nat (j : ℕ) (hj : j ≤ 5) :
    (zeroDstW s c a e (BitVec.ofNat 32 j)).toNat
      = 2048 * c + (valid c a.toNat e.toNat + (2048 - valid c a.toNat e.toNat) / 2 ^ j * 2 ^ j) := by
  have hv := valid_le c a.toNat e.toNat
  obtain ⟨h1, h2⟩ := doneW_isInt 5 j (by decide) hj (zeroW_isInt hs hc hae he) (by omega) (lit 32 (by decide))
  have h3 := clear_bits 5 j hj (2048 - valid c a.toNat e.toNat)
  have h4 : (2048 - valid c a.toNat e.toNat) / 2 ^ j * 2 ^ j ≤ 2048 - valid c a.toNat e.toNat := Nat.div_mul_le_self _ _
  rw [← h3] at h4 ⊢
  generalize (2048 - valid c a.toNat e.toNat) / 2 ^ 5 * 2 ^ 5 = u at *
  generalize (2048 - valid c a.toNat e.toNat) % 2 ^ 5 / 2 ^ j * 2 ^ j = w at *
  exact nat_of (addi (halfW_isInt hs hc)
    (addi (addi (validW_isInt hs hc hae he) h1 ⟨rfl, by omega, by omega⟩) h2 ⟨rfl, by omega, by omega⟩) ⟨rfl, by omega, by omega⟩)
    (by push_cast; ring)

/-- The rows of trip `t` of the copying loop, source and output … -/
theorem srcLoop_nat (t : ℕ) (ht : t < valid c a.toNat e.toNat / 64) :
    (Scalar.addi (Scalar.addi a (halfW s c)) (Scalar.muli (Scf.iv 0#32 1#32 t) 64#32)).toNat = a.toNat + 2048 * c + 64 * t := by
  have hv := valid_le c a.toNat e.toNat
  exact nat_of (addi (addi (isInt_toNat a (by omega)) (halfW_isInt hs hc) ⟨rfl, by omega, by omega⟩)
    (muli (iv (lit 0 (by decide)) (lit 1 (by decide)) t ⟨rfl, by omega, by omega⟩) (lit 64 (by decide)) ⟨rfl, by omega, by omega⟩)
    ⟨rfl, by omega, by omega⟩) (by omega)
theorem dstLoop_nat (t : ℕ) (ht : t < valid c a.toNat e.toNat / 64) :
    (Scalar.addi (halfW s c) (Scalar.muli (Scf.iv 0#32 1#32 t) 64#32)).toNat = 2048 * c + 64 * t := by
  have hv := valid_le c a.toNat e.toNat
  exact nat_of (addi (halfW_isInt hs hc)
    (muli (iv (lit 0 (by decide)) (lit 1 (by decide)) t ⟨rfl, by omega, by omega⟩) (lit 64 (by decide)) ⟨rfl, by omega, by omega⟩)
    ⟨rfl, by omega, by omega⟩) (by omega)
/-- … and of trip `t` of the zeros' loop. -/
theorem zeroLoop_nat (t : ℕ) (ht : t < (2048 - valid c a.toNat e.toNat) / 32) :
    (Scalar.addi (Scalar.addi (halfW s c) (validW s c a e)) (Scalar.muli (Scf.iv 0#32 1#32 t) 32#32)).toNat
      = 2048 * c + (valid c a.toNat e.toNat + 32 * t) := by
  have hv := valid_le c a.toNat e.toNat
  exact nat_of (addi (addi (halfW_isInt hs hc) (validW_isInt hs hc hae he) ⟨rfl, by omega, by omega⟩)
    (muli (iv (lit 0 (by decide)) (lit 1 (by decide)) t ⟨rfl, by omega, by omega⟩) (lit 32 (by decide)) ⟨rfl, by omega, by omega⟩)
    ⟨rfl, by omega, by omega⟩) (by omega)

theorem copyLoop_trips : Scf.trips 0#32 (chunksW (validW s c a e) 64#32) 1#32 = valid c a.toNat e.toNat / 64 :=
  trips_eq (lit 0 (by decide)) (chunksW_isInt (validW_isInt hs hc hae he) (valid_le _ _ _) (lit 64 (by decide)) (by decide)) (lit 1 (by decide)) _
    ⟨by decide, by omega⟩
theorem zeroLoop_trips : Scf.trips 0#32 (chunksW (zeroW s c a e) 32#32) 1#32 = (2048 - valid c a.toNat e.toNat) / 32 :=
  trips_eq (lit 0 (by decide)) (chunksW_isInt (zeroW_isInt hs hc hae he) (Nat.sub_le _ _) (lit 32 (by decide)) (by decide)) (lit 1 (by decide)) _
    ⟨by decide, by omega⟩
theorem copyLoop_ok : Scf.OK 0#32 (chunksW (validW s c a e) 64#32) 1#32 :=
  have := valid_le c a.toNat e.toNat
  ok (lit 0 (by decide)) (chunksW_isInt (validW_isInt hs hc hae he) (valid_le _ _ _) (lit 64 (by decide)) (by decide)) (lit 1 (by decide))
    ⟨by decide, by omega⟩
theorem zeroLoop_ok : Scf.OK 0#32 (chunksW (zeroW s c a e) 32#32) 1#32 :=
  ok (lit 0 (by decide)) (chunksW_isInt (zeroW_isInt hs hc hae he) (Nat.sub_le _ _) (lit 32 (by decide)) (by decide)) (lit 1 (by decide))
    ⟨by decide, by omega⟩

end Rows

end Cert.Proof.Words
-- ==== Proof.Scatter.lean ====
module

public import Idealize.ShloMosaic.PureOps.ShapeOps
public import Idealize.ShloMosaic.Lib.ValueIdxCore

/-!
# A scatter that sets, read at an index

The element at `i` of a scatter whose body returns the update: the one update that lands at `i`, or the operand's.
-/

@[expose] public section

namespace Cert.Proof.Scatter

open Idealize.ShloMosaic

variable {α : Type} {w : ℕ} {s si u : Shape} {d : ScatterDims s si u} {idx : IVec si w} {upd : u.Idx → α} {i : s.Idx}

/-- One update of the fold. -/
def put (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem put_hit {r : s.Idx → α} {n : Fin u.numel} (h : d.resultIdx? (u.rowMajor.symm n) idx = some i) :
    put d idx upd r n i = upd (u.rowMajor.symm n) := by
  unfold put; rw [h]; simp

theorem put_miss {r : s.Idx → α} {n : Fin u.numel} (h : d.resultIdx? (u.rowMajor.symm n) idx ≠ some i) : put d idx upd r n i = r i := by
  unfold put
  cases e : d.resultIdx? (u.rowMajor.symm n) idx with
  | none => rfl
  | some k => exact if_neg fun hk => h (e.trans (congrArg some hk.symm))

theorem fold_miss : ∀ (l : List (Fin u.numel)) (r : s.Idx → α), (∀ n ∈ l, d.resultIdx? (u.rowMajor.symm n) idx ≠ some i) → l.foldl (put d idx upd) r i = r i
  | [], _, _ => rfl
  | n :: l, r, h => (fold_miss l _ fun k hk => h k (List.mem_cons_of_mem _ hk)).trans (put_miss (h n List.mem_cons_self))

theorem fold_hit {v : α} : ∀ (l : List (Fin u.numel)) (r : s.Idx → α),
    (∀ n ∈ l, d.resultIdx? (u.rowMajor.symm n) idx = some i → upd (u.rowMajor.symm n) = v) →
    ((∃ n ∈ l, d.resultIdx? (u.rowMajor.symm n) idx = some i) ∨ r i = v) → l.foldl (put d idx upd) r i = v
  | [], _, _, h => h.elim (fun ⟨_, hn, _⟩ => absurd hn List.not_mem_nil) id
  | n :: l, r, hv, h => by
    refine fold_hit l _ (fun k hk => hv k (List.mem_cons_of_mem _ hk)) ?_
    by_cases hn : d.resultIdx? (u.rowMajor.symm n) idx = some i
    · exact .inr ((put_hit hn).trans (hv n List.mem_cons_self hn))
    · rcases h with ⟨k, hk, e⟩ | h
      · rcases List.mem_cons.1 hk with rfl | hk
        · exact absurd e hn
        · exact .inl ⟨k, hk, e⟩
      · exact .inr ((put_miss hn).trans h)

theorem scatter_fold (x : s.Idx → α) : Host.scatter d (fun _ b => b) x idx upd = (List.finRange u.numel).foldl (put d idx upd) x := by
  unfold Host.scatter
  congr 1

/-- Where no update lands the operand's element stays. -/
theorem scatter_miss (x : s.Idx → α) (h : ∀ j, d.resultIdx? j idx ≠ some i) : Host.scatter d (fun _ b => b) x idx upd i = x i := by
  rw [scatter_fold]
  exact fold_miss _ _ fun n _ => h _

/-- Where just one update lands the element is its. -/
theorem scatter_hit (x : s.Idx → α) (j : u.Idx) (h : d.resultIdx? j idx = some i) (hu : ∀ j', d.resultIdx? j' idx = some i → j' = j) :
    Host.scatter d (fun _ b => b) x idx upd i = upd j := by
  rw [scatter_fold]
  refine fold_hit _ _ (fun n _ hn => congrArg upd (hu _ hn)) (.inl ⟨u.rowMajor j, List.mem_finRange _, ?_⟩)
  rw [Equiv.symm_apply_apply]; exact h

/-- Where an update lands, axis by axis. -/
theorem resultIdx_eq_some {j : u.Idx} : d.resultIdx? j idx = some i ↔ ∀ a, d.start j idx a + d.window j a = (i a).val := by
  unfold ScatterDims.resultIdx?
  constructor
  · intro h a
    split at h
    · next hb =>
      have e := congrFun (Option.some.inj h) a
      have hb := hb a
      rw [← e]
      show _ = (((d.start j idx a + d.window j a).toNat : ℕ) : ℤ)
      omega
    · exact absurd h (by simp)
  · intro h
    have hb : ∀ a, 0 ≤ d.start j idx a + d.window j a ∧ d.start j idx a + d.window j a < s.size a := fun a => by
      have := (i a).isLt
      rw [h a]; omega
    rw [dif_pos hb]
    refine congrArg some (funext fun a => Fin.ext ?_)
    show (d.start j idx a + d.window j a).toNat = _
    rw [h a]; omega

end Cert.Proof.Scatter
-- ==== Proof.Land.lean ====
module

public import proofs.«01_k».proof.Proof.Scatter

/-!
# Where the two programs' scatters put an update

The kernel's host part copies the seventeen bounds to the front of a table of thirty-two. The reference
puts every token's row at the batch entry and row that two index words name.
-/

@[expose] public section

namespace Cert.Proof.Scatter

open Idealize.ShloMosaic
open Idealize.ShloMosaic.ValueIdx (ix1 ix2 ix3)

variable {α : Type}

/-- The dimension numbers of the copy into the table. -/
abbrev tableDims (wf : ScatterDims.WF ⟨1, ![32]⟩ ⟨1, ![1]⟩ ⟨1, ![17]⟩ [0] [] [0] 0) : ScatterDims ⟨1, ![32]⟩ ⟨1, ![1]⟩ ⟨1, ![17]⟩ where
  updateWindowDims := [0]
  insertedWindowDims := []
  scatterDimsToOperandDims := [0]
  indexVectorDim := 0
  wf := wf

/-- With the start at 0, update `j` lands at table entry `j`. -/
theorem table_lands {wf} {idx : IVec ⟨1, ![1]⟩ 32} (h0 : ∀ i, idx i = 0#32) {j : (⟨1, ![17]⟩ : Shape).Idx} {i : (⟨1, ![32]⟩ : Shape).Idx} :
    (tableDims wf).resultIdx? j idx = some i ↔ (j 0).val = (i 0).val := by
  rw [resultIdx_eq_some]
  have hs : (tableDims wf).start j idx 0 = 0 := by
    unfold ScatterDims.start
    rw [dif_pos (show (0 : Fin 1) ∈ (tableDims wf).scatterDimsToOperandDims from List.mem_singleton.mpr rfl), h0]
    decide
  have hw : (tableDims wf).window j 0 = (j 0).val := by
    unfold ScatterDims.window
    rw [dif_pos (show (0 : Fin 1) ∈ Shape.kept ⟨1, ![32]⟩ [] by decide)]
    rfl
  constructor
  · intro h
    have := h 0
    rw [hs, hw] at this
    omega
  · intro h a
    obtain rfl : a = 0 := Subsingleton.elim _ _
    rw [hs, hw]
    omega

/-- The first seventeen entries of the table are the bounds. -/
theorem table_apply {wf} {idx : IVec ⟨1, ![1]⟩ 32} (h0 : ∀ i, idx i = 0#32) (x : (⟨1, ![32]⟩ : Shape).Idx → α) (upd : (⟨1, ![17]⟩ : Shape).Idx → α)
    {n : ℕ} (hn : n < 17) : Host.scatter (tableDims wf) (fun _ b => b) x idx upd (ix1 ⟨n, by omega⟩) = upd (ix1 ⟨n, hn⟩) := by
  refine scatter_hit x (ix1 ⟨n, hn⟩) ((table_lands h0).2 rfl) fun j' hj => ?_
  have e := (table_lands h0).1 hj
  funext a
  obtain rfl : a = 0 := Subsingleton.elim _ _
  exact Fin.ext e

/-- The dimension numbers of the reference's scatter of rows. -/
abbrev rowDims (wf : ScatterDims.WF ⟨3, ![16, 4096, 1024]⟩ ⟨2, ![32768, 2]⟩ ⟨2, ![32768, 1024]⟩ [1] [0, 1] [0, 1] 1) :
    ScatterDims ⟨3, ![16, 4096, 1024]⟩ ⟨2, ![32768, 2]⟩ ⟨2, ![32768, 1024]⟩ where
  updateWindowDims := [1]
  insertedWindowDims := [0, 1]
  scatterDimsToOperandDims := [0, 1]
  indexVectorDim := 1
  wf := wf

/-- Lane `l` of token `t` lands at lane `l` of the batch entry and row its two index words name. -/
theorem row_lands {wf} {idx : IVec ⟨2, ![32768, 2]⟩ 32} {j : (⟨2, ![32768, 1024]⟩ : Shape).Idx} {i : (⟨3, ![16, 4096, 1024]⟩ : Shape).Idx} :
    (rowDims wf).resultIdx? j idx = some i
      ↔ (idx (ix2 (j 0) 0)).toInt = (i 0).val ∧ (idx (ix2 (j 0) 1)).toInt = (i 1).val ∧ (j 1).val = (i 2).val := by
  rw [resultIdx_eq_some]
  have s0 : (rowDims wf).start j idx 0 = (idx (ix2 (j 0) 0)).toInt := by
    unfold ScatterDims.start
    rw [dif_pos (show (0 : Fin 3) ∈ ([0, 1] : List (Fin 3)) by decide)]
    refine congrArg (fun k => (idx k).toInt) (funext fun a => Fin.ext ?_)
    match a with
    | ⟨0, _⟩ => rfl
    | ⟨1, _⟩ => rfl
  have s1 : (rowDims wf).start j idx 1 = (idx (ix2 (j 0) 1)).toInt := by
    unfold ScatterDims.start
    rw [dif_pos (show (1 : Fin 3) ∈ ([0, 1] : List (Fin 3)) by decide)]
    refine congrArg (fun k => (idx k).toInt) (funext fun a => Fin.ext ?_)
    match a with
    | ⟨0, _⟩ => rfl
    | ⟨1, _⟩ => rfl
  have s2 : (rowDims wf).start j idx 2 = 0 := dif_neg (show (2 : Fin 3) ∉ ([0, 1] : List (Fin 3)) by decide)
  have w0 : (rowDims wf).window j 0 = 0 := dif_neg (show (0 : Fin 3) ∉ Shape.kept ⟨3, ![16, 4096, 1024]⟩ [0, 1] by decide)
  have w1 : (rowDims wf).window j 1 = 0 := dif_neg (show (1 : Fin 3) ∉ Shape.kept ⟨3, ![16, 4096, 1024]⟩ [0, 1] by decide)
  have w2 : (rowDims wf).window j 2 = (j 1).val := by
    unfold ScatterDims.window
    rw [dif_pos (show (2 : Fin 3) ∈ Shape.kept ⟨3, ![16, 4096, 1024]⟩ [0, 1] by decide)]
    rfl
  constructor
  · intro h
    have h0 := h 0
    have h1 := h 1
    have h2 := h 2
    rw [s0, w0] at h0
    rw [s1, w1] at h1
    rw [s2, w2] at h2
    exact ⟨by omega, by omega, by omega⟩
  · rintro ⟨h0, h1, h2⟩ a
    match a with
    | ⟨0, _⟩ => exact (congrArg₂ (fun x (y : ℕ) => x + (y : ℤ)) s0 w0).trans (show _ = ((i 0).val : ℤ) by omega)
    | ⟨1, _⟩ => exact (congrArg₂ (fun x (y : ℕ) => x + (y : ℤ)) s1 w1).trans (show _ = ((i 1).val : ℤ) by omega)
    | ⟨2, _⟩ => exact (congrArg₂ (fun x (y : ℕ) => x + (y : ℤ)) s2 w2).trans (show _ = ((i 2).val : ℤ) by omega)

end Cert.Proof.Scatter
-- ==== Proof.Segs.lean ====
module

public import proofs.«01_k».proof.Proof.Gen.Pre_valid_segments
public import Idealize.ShloMosaic.Lib.ReduceAll
public import Idealize.ShloMosaic.Lib.StableHlo.Predicate
public import Idealize.ShloMosaic.Lib.ValueIdxCore

/-!
# What the precondition says of the segment bounds

The seventeen bounds as numbers, and the precondition's four conjuncts read back as statements about those numbers.
-/

@[expose] public section

namespace Cert.Proof.Segs

open Idealize.ShloMosaic Idealize.ShloMosaic.StableHlo.Predicate
open Idealize.ShloMosaic.ValueIdx (ix1)

/-- The type of the array of bounds. -/
abbrev Cu : Type := (⟨1, ![17]⟩ : Shape).Idx → BitVec 32

/-- Bound `n` as a number. -/
def bd (cu : Cu) (n : ℕ) : ℕ := (cu (ix1 ⟨n % 17, Nat.mod_lt _ (by decide)⟩)).toNat

/-- The bounds run from 0 to 32768 without falling, and no segment is longer than 4096. -/
structure Bounds (cu : Cu) : Prop where
  zero : bd cu 0 = 0
  last : bd cu 16 = 32768
  top : ∀ n, bd cu n ≤ 32768
  le : ∀ n, n < 16 → bd cu n ≤ bd cu (n + 1)
  len : ∀ n, n < 16 → bd cu (n + 1) - bd cu n ≤ 4096

/-- If no bound is below the one before, then none is below an earlier one. -/
theorem mono_of_le {cu : Cu} (le : ∀ n, n < 16 → bd cu n ≤ bd cu (n + 1)) {b : ℕ} (hb : b ≤ 16) {a : ℕ} (hab : a ≤ b) : bd cu a ≤ bd cu b := by
  induction b, hab using Nat.le_induction with
  | base => exact le_rfl
  | succ b _ ih => exact (ih (by omega)).trans (le b (by omega))

/-- Between two earlier and later bounds the numbers don't fall. -/
theorem Bounds.mono {cu : Cu} (h : Bounds cu) {a b : ℕ} (hab : a ≤ b) (hb : b ≤ 16) : bd cu a ≤ bd cu b := mono_of_le h.le hb hab

/-- A word whose signed distance from a small one is from 0 to 4096 is that much further on. -/
theorem step_of_signed {x y : BitVec 32} (hx : x.toNat ≤ 65536) (h0 : IntOp.cmpi .sge (IntOp.subi y x) 0#32 = 1#1)
    (h1 : IntOp.cmpi .sle (IntOp.subi y x) 4096#32 = 1#1) : x.toNat ≤ y.toNat ∧ y.toNat - x.toNat ≤ 4096 := by
  simp only [IntOp.cmpi, IntOp.subi, ofBool_eq_one_iff, BitVec.sle_eq_decide, decide_eq_true_eq, BitVec.toInt_eq_toNat_cond, BitVec.toNat_ofNat,
    BitVec.toNat_sub, Nat.reducePow, Nat.reduceMod] at h0 h1
  have := y.isLt
  split at h0 <;> omega

/-- The precondition holds of the bounds only if they are in order and the segments short enough. -/
theorem bounds_of_pre {F : FTy → Type} [FloatOps F] (flat : FVec F Cert.Pre_valid_segments.S32768x1024 .f32) (cu : Cu)
    (h : Cert.Pre_valid_segments.fn (F := F) flat cu = fun _ => 1#1) : Bounds cu := by
  have e := congrFun h fun a => a.elim0
  dsimp only [Cert.Pre_valid_segments.fn] at e
  simp only [andi, IntOp.andi_eq_one] at e
  obtain ⟨⟨⟨e0, e16⟩, elo⟩, ehi⟩ := e
  have hlo := fun i => Host.reduce_andi_all _ _ _ _ _ elo i
  have hhi := fun i => Host.reduce_andi_all _ _ _ _ _ ehi i
  have step : ∀ n, n < 16 → bd cu n ≤ 65536 → bd cu n ≤ bd cu (n + 1) ∧ bd cu (n + 1) - bd cu n ≤ 4096 := fun n hn small => by
    have lo := hlo (ix1 ⟨n, hn⟩)
    have hi := hhi (ix1 ⟨n, hn⟩)
    have hL : extractStridedSlice Cert.Pre_valid_segments.S16 ![0] cu Cert.Pre_valid_segments.Gen.slices_S17_S16_0 (ix1 ⟨n, hn⟩)
        = cu (ix1 ⟨n % 17, Nat.mod_lt _ (by decide)⟩) := by
      refine congrArg cu (funext fun a => Fin.ext ?_)
      match a with
      | ⟨0, _⟩ => show 0 + n = n % 17; omega
    have hR : extractStridedSlice Cert.Pre_valid_segments.S16 ![1] cu Cert.Pre_valid_segments.Gen.slices_S17_S16_1 (ix1 ⟨n, hn⟩)
        = cu (ix1 ⟨(n + 1) % 17, Nat.mod_lt _ (by decide)⟩) := by
      refine congrArg cu (funext fun a => Fin.ext ?_)
      match a with
      | ⟨0, _⟩ => show 1 + n = (n + 1) % 17; omega
    refine step_of_signed small ?_ ?_
    · rw [← hL, ← hR]; exact lo
    · rw [← hL, ← hR]; exact hi
  have one : ∀ (x : (⟨1, ![1]⟩ : Shape).Idx → BitVec 32) (hc : (⟨1, ![1]⟩ : Shape).ShapeCasts ⟨0, ![]⟩) (j : (⟨0, ![]⟩ : Shape).Idx),
      shapeCast ⟨0, ![]⟩ x hc j = x (ix1 0) := fun x hc j => congrArg x (funext fun a => Fin.ext (by
    match a with
    | ⟨0, _⟩ => exact Nat.lt_one_iff.1 (Fin.isLt _)))
  have z : cu (ix1 0) = 0#32 := by
    have := cmpi_eq_iff.1 e0
    rw [one] at this
    refine Eq.trans (congrArg cu (funext fun a => Fin.ext ?_)) this
    match a with
    | ⟨0, _⟩ => rfl
  have l : cu (ix1 16) = 32768#32 := by
    have := cmpi_eq_iff.1 e16
    rw [one] at this
    refine Eq.trans (congrArg cu (funext fun a => Fin.ext ?_)) this
    match a with
    | ⟨0, _⟩ => rfl
  have zero : bd cu 0 = 0 := congrArg BitVec.toNat z
  have last : bd cu 16 = 32768 := congrArg BitVec.toNat l
  have small : ∀ n, n ≤ 16 → bd cu n ≤ 4096 * n := by
    intro n
    induction n with
    | zero => intro _; omega
    | succ n ih =>
      intro hn
      have := ih (by omega)
      have := step n (by omega) (by omega)
      omega
  have le : ∀ n, n < 16 → bd cu n ≤ bd cu (n + 1) := fun n hn => (step n hn (by have := small n (by omega); omega)).1
  refine ⟨zero, last, fun n => ?_, le, fun n hn => (step n hn (by have := small n (by omega); omega)).2⟩
  have e : bd cu n = bd cu (n % 17) := by unfold bd; simp only [Nat.mod_mod]
  rw [e, ← last]
  exact mono_of_le le le_rfl (by omega)

end Cert.Proof.Segs
-- ==== Proof.OffsIdeal.lean ====
module

public import proofs.«01_k».proof.KernelIdeal
public import proofs.«01_k».proof.Proof.Words

/-!
# The kernel's offsets, conditions and trip counts

Each offset, condition and loop bound the kernel prints, in the closed form a proof reads it by, for segment
bounds in order and in range; and the kernel's side condition, which then holds.
-/

@[expose] public section

namespace Cert.KernelIdeal.Pf

open Cert.Proof.Words
open Idealize Idealize.ShloMosaic Idealize.ShloMosaic.Affine

variable (i : grid0.Coords) (a e : BitVec 32)

/-- What a tile knows of its segment's two bounds. -/
structure Seg : Prop where
  le : a.toNat ≤ e.toNat
  inb : e.toNat ≤ 32768
  len : e.toNat - a.toNat ≤ 4096

/-- The number of rows the tile copies. -/
abbrev vt : ℕ := valid (i 0).val a.toNat e.toNat
/-- The number of rows the tile fills with zeros. -/
abbrev zt : ℕ := 2048 - vt i a e

theorem c_lt : (i 0).val < 2 := (i 0).isLt
theorem s_lt : (i 1).val < 16 := (i 1).isLt

theorem batch_nat : (batchW (i 1).val (i 0).val).toNat = (i 1).val := nat_of (batchW_isInt (s_lt i) (c_lt i)) rfl

/-- A two-axis offset by its row … -/
theorem at2 {x r : ℕ} (hx : x = r) : (![x, 0] : Fin 2 → ℕ) = ![r, 0] := by rw [hx]
/-- … and a three-axis offset by its batch entry and row. -/
theorem at3 {y b x r : ℕ} (hy : y = b) (hx : x = r) : (![y, x, 0] : Fin 3 → ℕ) = ![b, r, 0] := by rw [hy, hx]

/-- The first source row of the tile. -/
abbrev row0 : ℕ := a.toNat + 2048 * (i 0).val

/-- A block of `sz` rows of the tokens from row `r` is in range. -/
theorem inb2 (r sz : ℕ) (h : r + sz ≤ 32768) : ∀ x, (![r, 0] : Fin 2 → ℕ) x + (⟨2, ![sz, 1024]⟩ : Shape).size x ≤ S32768x1024.size x := by
  intro x; fin_cases x
  · exact h
  · exact le_rfl
/-- A block of `sz` rows of batch entry `b` of the output from row `r` is in range. -/
theorem inb3 (b r sz : ℕ) (hb : b < 16) (h : r + sz ≤ 4096) :
    ∀ x, (![b, r, 0] : Fin 3 → ℕ) x + (⟨3, ![1, sz, 1024]⟩ : Shape).size x ≤ S16x4096x1024.size x := by
  intro x; fin_cases x
  · exact hb
  · exact h
  · exact le_rfl

variable {i a e}
variable (h : Seg a e)
include h

theorem src (j : ℕ) (hj : j ≤ 6) : (srcW (i 1).val (i 0).val a e (BitVec.ofNat 32 j)).toNat = row0 i a + vt i a e / 2 ^ j * 2 ^ j :=
  srcW_nat (s_lt i) (c_lt i) h.le h.inb j hj
theorem dst (j : ℕ) (hj : j ≤ 6) : (dstW (i 1).val (i 0).val a e (BitVec.ofNat 32 j)).toNat = 2048 * (i 0).val + vt i a e / 2 ^ j * 2 ^ j :=
  dstW_nat (s_lt i) (c_lt i) h.le h.inb j hj
theorem zdst (j : ℕ) (hj : j ≤ 5) :
    (zeroDstW (i 1).val (i 0).val a e (BitVec.ofNat 32 j)).toNat = 2048 * (i 0).val + (vt i a e + zt i a e / 2 ^ j * 2 ^ j) :=
  zeroDstW_nat (s_lt i) (c_lt i) h.le h.inb j hj

theorem off6_eq : k0_off6 i a e = ![row0 i a + vt i a e / 2 ^ 6 * 2 ^ 6, 0] := at2 (src h 6 (by decide))
theorem off8_eq : k0_off8 i a e = ![row0 i a + vt i a e / 2 ^ 5 * 2 ^ 5, 0] := at2 (src h 5 (by decide))
theorem off10_eq : k0_off10 i a e = ![row0 i a + vt i a e / 2 ^ 4 * 2 ^ 4, 0] := at2 (src h 4 (by decide))
theorem off12_eq : k0_off12 i a e = ![row0 i a + vt i a e / 2 ^ 3 * 2 ^ 3, 0] := at2 (src h 3 (by decide))
theorem off14_eq : k0_off14 i a e = ![row0 i a + vt i a e / 2 ^ 2 * 2 ^ 2, 0] := at2 (src h 2 (by decide))
theorem off16_eq : k0_off16 i a e = ![row0 i a + vt i a e / 2 ^ 1 * 2 ^ 1, 0] := at2 (src h 1 (by decide))

theorem off7_eq : k0_off7 i a e = ![(i 1).val, 2048 * (i 0).val + vt i a e / 2 ^ 6 * 2 ^ 6, 0] :=
  at3 (batch_nat i) (dst h 6 (by decide))
theorem off9_eq : k0_off9 i a e = ![(i 1).val, 2048 * (i 0).val + vt i a e / 2 ^ 5 * 2 ^ 5, 0] :=
  at3 (batch_nat i) (dst h 5 (by decide))
theorem off11_eq : k0_off11 i a e = ![(i 1).val, 2048 * (i 0).val + vt i a e / 2 ^ 4 * 2 ^ 4, 0] :=
  at3 (batch_nat i) (dst h 4 (by decide))
theorem off13_eq : k0_off13 i a e = ![(i 1).val, 2048 * (i 0).val + vt i a e / 2 ^ 3 * 2 ^ 3, 0] :=
  at3 (batch_nat i) (dst h 3 (by decide))
theorem off15_eq : k0_off15 i a e = ![(i 1).val, 2048 * (i 0).val + vt i a e / 2 ^ 2 * 2 ^ 2, 0] :=
  at3 (batch_nat i) (dst h 2 (by decide))
theorem off17_eq : k0_off17 i a e = ![(i 1).val, 2048 * (i 0).val + vt i a e / 2 ^ 1 * 2 ^ 1, 0] :=
  at3 (batch_nat i) (dst h 1 (by decide))

theorem off20_eq : k0_off20 i a e = ![(i 1).val, 2048 * (i 0).val + (vt i a e + zt i a e / 2 ^ 5 * 2 ^ 5), 0] :=
  at3 (batch_nat i) (zdst h 5 (by decide))
theorem off21_eq : k0_off21 i a e = ![(i 1).val, 2048 * (i 0).val + (vt i a e + zt i a e / 2 ^ 4 * 2 ^ 4), 0] :=
  at3 (batch_nat i) (zdst h 4 (by decide))
theorem off22_eq : k0_off22 i a e = ![(i 1).val, 2048 * (i 0).val + (vt i a e + zt i a e / 2 ^ 3 * 2 ^ 3), 0] :=
  at3 (batch_nat i) (zdst h 3 (by decide))
theorem off23_eq : k0_off23 i a e = ![(i 1).val, 2048 * (i 0).val + (vt i a e + zt i a e / 2 ^ 2 * 2 ^ 2), 0] :=
  at3 (batch_nat i) (zdst h 2 (by decide))
theorem off24_eq : k0_off24 i a e = ![(i 1).val, 2048 * (i 0).val + (vt i a e + zt i a e / 2 ^ 1 * 2 ^ 1), 0] :=
  at3 (batch_nat i) (zdst h 1 (by decide))

/-! ## Conditions -/

theorem bit (j : ℕ) (hj : j < 6) : bitW (validW (i 1).val (i 0).val a e) 64#32 (BitVec.ofNat 32 (2 ^ j)) = 1#1 ↔ vt i a e / 2 ^ j % 2 = 1 :=
  bitW_iff 6 j le_rfl hj (validW_isInt (s_lt i) (c_lt i) h.le h.inb) (valid_le _ _ _) (lit 64 (by decide))
theorem zbit (j : ℕ) (hj : j < 5) : bitW (zeroW (i 1).val (i 0).val a e) 32#32 (BitVec.ofNat 32 (2 ^ j)) = 1#1 ↔ zt i a e / 2 ^ j % 2 = 1 :=
  bitW_iff 5 j (by decide) hj (zeroW_isInt (s_lt i) (c_lt i) h.le h.inb) (Nat.sub_le _ _) (lit 32 (by decide))

theorem cond1_iff : k0_cond1 i a e = 1#1 ↔ vt i a e / 2 ^ 5 % 2 = 1 := bit h 5 (by decide)
theorem cond2_iff : k0_cond2 i a e = 1#1 ↔ vt i a e / 2 ^ 4 % 2 = 1 := bit h 4 (by decide)
theorem cond3_iff : k0_cond3 i a e = 1#1 ↔ vt i a e / 2 ^ 3 % 2 = 1 := bit h 3 (by decide)
theorem cond4_iff : k0_cond4 i a e = 1#1 ↔ vt i a e / 2 ^ 2 % 2 = 1 := bit h 2 (by decide)
theorem cond5_iff : k0_cond5 i a e = 1#1 ↔ vt i a e / 2 ^ 1 % 2 = 1 := bit h 1 (by decide)
theorem cond6_iff : k0_cond6 i a e = 1#1 ↔ vt i a e / 2 ^ 0 % 2 = 1 := bit h 0 (by decide)
theorem cond7_iff : k0_cond7 i a e = 1#1 ↔ zt i a e / 2 ^ 4 % 2 = 1 := zbit h 4 (by decide)
theorem cond8_iff : k0_cond8 i a e = 1#1 ↔ zt i a e / 2 ^ 3 % 2 = 1 := zbit h 3 (by decide)
theorem cond9_iff : k0_cond9 i a e = 1#1 ↔ zt i a e / 2 ^ 2 % 2 = 1 := zbit h 2 (by decide)
theorem cond10_iff : k0_cond10 i a e = 1#1 ↔ zt i a e / 2 ^ 1 % 2 = 1 := zbit h 1 (by decide)
theorem cond11_iff : k0_cond11 i a e = 1#1 ↔ zt i a e / 2 ^ 0 % 2 = 1 := zbit h 0 (by decide)

/-! ## Loops -/

theorem t1_trips : (k0_t1_loop i a e).trips = vt i a e / 64 := copyLoop_trips (s_lt i) (c_lt i) h.le h.inb
theorem t3_trips : (k0_t3_loop i a e).trips = zt i a e / 32 := zeroLoop_trips (s_lt i) (c_lt i) h.le h.inb
omit h in
theorem t2_trips : (k0_t2_loop i a e).trips = 0 := Scf.rem_trips _ _
omit h in
theorem t4_trips : (k0_t4_loop i a e).trips = 0 := Scf.rem_trips _ _
theorem t1_lt (t : Fin (k0_t1_loop i a e).trips) : t.val < vt i a e / 64 := lt_of_lt_of_eq t.isLt (t1_trips h)
theorem t3_lt (t : Fin (k0_t3_loop i a e).trips) : t.val < zt i a e / 32 := lt_of_lt_of_eq t.isLt (t3_trips h)

theorem off2_eq (t : Fin (k0_t1_loop i a e).trips) : k0_off2 i a e t = ![row0 i a + 64 * t.val, 0] :=
  at2 (srcLoop_nat (s_lt i) (c_lt i) h.le h.inb t.val (t1_lt h t))
theorem off3_eq (t : Fin (k0_t1_loop i a e).trips) : k0_off3 i a e t = ![(i 1).val, 2048 * (i 0).val + 64 * t.val, 0] :=
  at3 (batch_nat i) (dstLoop_nat (s_lt i) (c_lt i) h.le h.inb t.val (t1_lt h t))
theorem off18_eq (t : Fin (k0_t3_loop i a e).trips) : k0_off18 i a e t = ![(i 1).val, 2048 * (i 0).val + (vt i a e + 32 * t.val), 0] :=
  at3 (batch_nat i) (zeroLoop_nat (s_lt i) (c_lt i) h.le h.inb t.val (t3_lt h t))

/-! ## The kernel's side condition -/

/-- A source block the tile copies lies in the tokens. -/
theorem src_inb (n sz : ℕ) (hsz : 0 < sz) (hn : n + sz ≤ vt i a e) :
    ∀ x, (![row0 i a + n, 0] : Fin 2 → ℕ) x + (⟨2, ![sz, 1024]⟩ : Shape).size x ≤ S32768x1024.size x :=
  inb2 _ _ (by have := h.inb; simp only [vt, row0, valid] at hn ⊢; omega)
omit h in
/-- An output block the tile writes lies in its half of its batch entry. -/
theorem dst_inb (n sz : ℕ) (hn : n + sz ≤ 2048) :
    ∀ x, (![(i 1).val, 2048 * (i 0).val + n, 0] : Fin 3 → ℕ) x + (⟨3, ![1, sz, 1024]⟩ : Shape).size x ≤ S16x4096x1024.size x :=
  inb3 _ _ _ (s_lt i) (by have := c_lt i; omega)

omit h in
/-- A step whose bit is set ends within the count. -/
theorem step_le {n j : ℕ} (hb : n / 2 ^ j % 2 = 1) : n / 2 ^ (j + 1) * 2 ^ (j + 1) + 2 ^ j ≤ n := by
  rw [← clear_step_set n j hb]; exact Nat.div_mul_le_self _ _

omit h in
theorem vt_le : vt i a e ≤ 2048 := valid_le _ _ _

omit h in
theorem zstep_le {j : ℕ} (hb : zt i a e / 2 ^ j % 2 = 1) : vt i a e + zt i a e / 2 ^ (j + 1) * 2 ^ (j + 1) + 2 ^ j ≤ 2048 := by
  have h1 := step_le hb; have h2 := vt_le (i := i) (a := a) (e := e); simp only [zt] at h1 ⊢; omega

theorem chk : k0_chk1 i a e := by
  have hv := vt_le (i := i) (a := a) (e := e)
  refine ⟨copyLoop_ok (s_lt i) (c_lt i) h.le h.inb, ?_, ?_, Scf.rem_ok _ _, fun t => (Scf.rem_no_trip _ _ t).elim,
    fun t => (Scf.rem_no_trip _ _ t).elim, ?_, ?_, ?_, ?_, ?_, ?_, ?_, ?_, ?_, ?_, ?_, ?_, zeroLoop_ok (s_lt i) (c_lt i) h.le h.inb, ?_,
    Scf.rem_ok _ _, fun t => (Scf.rem_no_trip _ _ t).elim, ?_, ?_, ?_, ?_, ?_⟩
  · intro t; rw [off2_eq h t]; have := t1_lt h t; exact src_inb h _ _ (by decide) (by omega)
  · intro t; rw [off3_eq h t]; have := t1_lt h t; exact dst_inb _ _ (by omega)
  · intro hb; rw [off6_eq h]; exact src_inb h _ _ (by decide) (step_le (j := 5) ((cond1_iff h).1 hb))
  · intro hb; rw [off7_eq h]; exact dst_inb _ _ ((step_le (j := 5) ((cond1_iff h).1 hb)).trans hv)
  · intro hb; rw [off8_eq h]; exact src_inb h _ _ (by decide) (step_le (j := 4) ((cond2_iff h).1 hb))
  · intro hb; rw [off9_eq h]; exact dst_inb _ _ ((step_le (j := 4) ((cond2_iff h).1 hb)).trans hv)
  · intro hb; rw [off10_eq h]; exact src_inb h _ _ (by decide) (step_le (j := 3) ((cond3_iff h).1 hb))
  · intro hb; rw [off11_eq h]; exact dst_inb _ _ ((step_le (j := 3) ((cond3_iff h).1 hb)).trans hv)
  · intro hb; rw [off12_eq h]; exact src_inb h _ _ (by decide) (step_le (j := 2) ((cond4_iff h).1 hb))
  · intro hb; rw [off13_eq h]; exact dst_inb _ _ ((step_le (j := 2) ((cond4_iff h).1 hb)).trans hv)
  · intro hb; rw [off14_eq h]; exact src_inb h _ _ (by decide) (step_le (j := 1) ((cond5_iff h).1 hb))
  · intro hb; rw [off15_eq h]; exact dst_inb _ _ ((step_le (j := 1) ((cond5_iff h).1 hb)).trans hv)
  · intro hb; rw [off16_eq h]; exact src_inb h _ _ (by decide) (step_le (j := 0) ((cond6_iff h).1 hb))
  · intro hb; rw [off17_eq h]; exact dst_inb _ _ ((step_le (j := 0) ((cond6_iff h).1 hb)).trans hv)
  · intro t; rw [off18_eq h t]; have h3 := t3_lt h t; simp only [zt] at h3; exact dst_inb _ _ (by omega)
  · intro hb; rw [off20_eq h]; exact dst_inb _ _ (zstep_le (j := 4) ((cond7_iff h).1 hb))
  · intro hb; rw [off21_eq h]; exact dst_inb _ _ (zstep_le (j := 3) ((cond8_iff h).1 hb))
  · intro hb; rw [off22_eq h]; exact dst_inb _ _ (zstep_le (j := 2) ((cond9_iff h).1 hb))
  · intro hb; rw [off23_eq h]; exact dst_inb _ _ (zstep_le (j := 1) ((cond10_iff h).1 hb))
  · intro hb; rw [off24_eq h]; exact dst_inb _ _ (zstep_le (j := 0) ((cond11_iff h).1 hb))

end Cert.KernelIdeal.Pf
-- ==== Proof.CopyIdeal.lean ====
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal.Skeleton
public import proofs.«01_k».proof.Proof.OffsIdeal

/-!
# One step of a tile

A tile owns the rows `[2048 c, 2048 c + 2048)` of batch entry `s` of the output. `St n` says that the first `n` of them
are done; a copying step and a zeroing step each take it further.
-/

@[expose] public section

noncomputable section

namespace Cert.KernelIdeal.Pf

open Cert.KernelIdeal Cert.KernelIdeal.Gen Cert.Proof.Words
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none

abbrev UH : Type := URounds (GSem nD τ sig) ℕ
abbrev UU : Type := UH × Counters

local notation "𝕄" => MT nD τ sig (HIx 1) (Elt F) ℕ UU ℕ

abbrev fLoc (d : Dev nD) : Loc nD τ sig := (SparseCore.T d).loc main_arg0
abbrev pLoc (d : Dev nD) : Loc nD τ sig := (SparseCore.T d).loc main_v2
abbrev zLoc (d : Dev nD) : Loc nD τ sig := (SparseCore.T d).loc main_v3
abbrev oLoc (d : Dev nD) : Loc nD τ sig := (SparseCore.T d).loc main_v4

abbrev fV : Memref sig Kind.scVector Space.hbm S32768x1024 EltTy.f32 := Memref.whole main_arg0_scv
abbrev pV : Memref sig Kind.scVector Space.hbm S32 EltTy.i32 := Memref.whole main_v2_scv
abbrev zV : Memref sig Kind.scVector Space.hbm S32x1024 EltTy.f32 := Memref.whole main_v3_scv
abbrev oV : Memref sig Kind.scVector Space.hbm S16x4096x1024 EltTy.f32 := Memref.whole main_v4_scv
abbrev cuV : Memref sig Kind.scVector Space.vmem S32 EltTy.i32 := Memref.whole cc0_scratch0
abbrev bV : Memref sig Kind.scVector Space.vmem S64x1024 EltTy.f32 := Memref.whole cc0_scratch1
abbrev zbV : Memref sig Kind.scVector Space.vmem S32x1024 EltTy.f32 := Memref.whole cc0_scratch2

/-! ## The rows -/

/-- `sz` rows of 1024. -/
abbrev Rows (sz : ℕ) : Shape := ⟨2, ![sz, 1024]⟩
/-- The same behind one batch entry. -/
abbrev Rows1 (sz : ℕ) : Shape := ⟨3, ![1, sz, 1024]⟩

/-- Row `r` of a segment starting at token `a` and ending before `e`, at lane `l`: the token's, or `z` past the end. -/
def rowVal (flat : S32768x1024.Idx → Elt F .f32) (z : Elt F .f32) (a e r : ℕ) (l : Fin 1024) : Elt F .f32 :=
  if a + r < e then flat (ix2 ⟨(a + r) % 32768, Nat.mod_lt _ (by decide)⟩ l) else z

/-- The elements of the output a tile owns. -/
def tileSet (L : grid0.Coords) : Finset S16x4096x1024.Idx :=
  Finset.univ.filter fun x => (x 0).val = (L 1).val ∧ 2048 * (L 0).val ≤ (x 1).val ∧ (x 1).val < 2048 * (L 0).val + 2048

theorem mem_tileSet {L : grid0.Coords} {x : S16x4096x1024.Idx} :
    x ∈ tileSet L ↔ (x 0).val = (L 1).val ∧ 2048 * (L 0).val ≤ (x 1).val ∧ (x 1).val < 2048 * (L 0).val + 2048 := by
  simp [tileSet]

section Views
variable {sz n : ℕ} (L : grid0.Coords)

/-- The tokens' block a copy reads. -/
abbrev srcM (off : Fin 2 → ℕ) (inb : ∀ x, off x + (Rows sz).size x ≤ S32768x1024.size x) : Memref sig .scVector .hbm (Rows sz) .f32 :=
  (fV).slice (Rect.unit (s := S32768x1024) off (Rows sz).size inb) (fun _ => rfl)
/-- The output's block a copy writes. -/
abbrev dstM (off : Fin 3 → ℕ) (inb : ∀ x, off x + (Rows1 sz).size x ≤ S16x4096x1024.size x) (hq : (Rows1 sz).Squeezes (Rows sz)) :
    Memref sig .scVector .hbm (Rows sz) .f32 :=
  ((oV).slice (Rect.unit (s := S16x4096x1024) off (Rows1 sz).size inb) (fun _ => rfl)).squeeze (Rows sz) hq

theorem srcM_emb (off inb) (r : ℕ) (hoff : off = ![r, 0]) (j : (Rows sz).Idx) :
    ((srcM (sz := sz) off inb).view.emb j 0).val = r + (j 0).val ∧ (srcM (sz := sz) off inb).view.emb j 1 = j 1 := by
  subst hoff
  constructor
  · show ![r, 0] 0 + 1 * (j 0).val = _
    simp
  · refine Fin.ext ?_
    show ![r, 0] 1 + 1 * (j 1).val = _
    simp

theorem dstM_emb (off inb hq) (b r : ℕ) (hoff : off = ![b, r, 0]) (j : (Rows sz).Idx) :
    ((dstM (sz := sz) off inb hq).view.emb j 0).val = b ∧ ((dstM (sz := sz) off inb hq).view.emb j 1).val = r + (j 0).val
      ∧ (dstM (sz := sz) off inb hq).view.emb j 2 = j 1 := by
  subst hoff
  have h : Shape.reshapeEquiv hq.numel_eq j = Fin.cons ⟨0, Nat.one_pos⟩ j := Shape.reshapeEquiv_cons_one (d := ![sz, 1024]) _ j
  have e : (dstM (sz := sz) ![b, r, 0] inb hq).view.emb j
      = (Rect.unit (s := S16x4096x1024) ![b, r, 0] (Rows1 sz).size inb).emb (Shape.reshapeEquiv hq.numel_eq j) := rfl
  rw [e, h]
  refine ⟨?_, ?_, Fin.ext ?_⟩
  · show ![b, r, 0] 0 + 1 * 0 = _
    simp
  · show ![b, r, 0] 1 + 1 * (j 0).val = _
    simp
  · show ![b, r, 0] 2 + 1 * (j 1).val = _
    simp

theorem mem_dstM (off inb hq) (b r : ℕ) (hoff : off = ![b, r, 0]) (x : S16x4096x1024.Idx) :
    x ∈ (dstM (sz := sz) off inb hq).view.set ↔ (x 0).val = b ∧ r ≤ (x 1).val ∧ (x 1).val < r + sz := by
  subst hoff
  rw [show (dstM (sz := sz) ![b, r, 0] inb hq).view.set = (Rect.unit (s := S16x4096x1024) ![b, r, 0] (Rows1 sz).size inb).set from
    (View.set_reshape _ _).trans (View.set_slice_whole _ _), Rect.mem_set_unit]
  have h2 : (x 2).val < 1024 := (x 2).isLt
  constructor
  · intro h
    have h0 := h 0; have h1 := h 1
    simp at h0 h1
    exact ⟨by omega, h1.1, h1.2⟩
  · rintro ⟨h0, h1, h1'⟩ k
    match k with
    | 0 => simp; omega
    | 1 => simp; exact ⟨h1, h1'⟩
    | 2 => simpa using h2

end Views

/-! ## What is done -/

/-- The first `n` rows of the tile's part of the output are its segment's. -/
def Good (L : grid0.Coords) (flat : S32768x1024.Idx → Elt F .f32) (z : Elt F .f32) (a e n : ℕ) (g : S16x4096x1024.Idx → Elt F .f32) : Prop :=
  ∀ x : S16x4096x1024.Idx, (x 0).val = (L 1).val → 2048 * (L 0).val ≤ (x 1).val → (x 1).val < 2048 * (L 0).val + n →
    g x = rowVal flat z a e (x 1).val (x 2)

theorem good_write {L : grid0.Coords} {flat : S32768x1024.Idx → Elt F .f32} {z : Elt F .f32} {a e n sz : ℕ} {g : S16x4096x1024.Idx → Elt F .f32}
    (hg : Good L flat z a e n g) (off inb hq) (hoff : off = ![(L 1).val, 2048 * (L 0).val + n, 0]) (pay : (Rows sz).Idx → Elt F .f32)
    (hpay : ∀ j : (Rows sz).Idx, pay j = rowVal flat z a e (2048 * (L 0).val + n + (j 0).val) (j 1)) :
    Good L flat z a e (n + sz) ((dstM (sz := sz) off inb hq).view.write (Elt F) g pay Finset.univ) := by
  intro x h0 hlo hhi
  by_cases hx : x ∈ (dstM (sz := sz) off inb hq).view.set
  · obtain ⟨j, -, rfl⟩ := Finset.mem_map.mp hx
    obtain ⟨-, e1, e2⟩ := dstM_emb off inb hq _ _ hoff j
    rw [View.write_emb_of_mem _ _ (Finset.mem_univ j)]
    refine (cast_eq _ _).trans ((hpay j).trans ?_)
    rw [← e1, ← e2]
  · rw [View.write_of_not_mem _ _ _ hx]
    refine hg x h0 hlo ?_
    by_contra hc
    exact hx ((mem_dstM off inb hq _ _ hoff x).2 ⟨h0, by omega, by omega⟩)

theorem dst_subset {L : grid0.Coords} {n sz : ℕ} (hn : n + sz ≤ 2048) (off inb hq) (hoff : off = ![(L 1).val, 2048 * (L 0).val + n, 0]) :
    (dstM (sz := sz) off inb hq).view.set ⊆ tileSet L := by
  intro x hx
  obtain ⟨h0, h1, h2⟩ := (mem_dstM off inb hq _ _ hoff x).1 hx
  exact mem_tileSet.2 ⟨h0, by omega, by omega⟩

/-! ## One transfer and its wait -/

section Step
variable [FloatOps F] (d : Dev nD) (L : grid0.Coords)

abbrev cV : Fin τ.nSC := (L 0).castLE hcore0
abbrev jV : Fin τ.nSub := (L 1).castLE hsub0
/-- The tile's thread. -/
abbrev thr : Thread nD τ := V d (cV L) (jV L)

/-- A tile's program. -/
abbrev TileProg (α : Type) : Type 1 := Prog (TpuEff nD τ sig (Elt F) Λ₀ (Proc.scVector (cV L) (jV L))) α

/-- What the tile has waited for so far does not matter. -/
abbrev Owes (O : CellTallies nD τ sig (HIx 1)) : sProp 𝕄 := iprop(∃ W', owes (thr d L) O W')

variable {d L} {O : CellTallies nD τ sig (HIx 1)}

/-- A transfer and its wait: what the destination holds is what the source reads, and every semaphore is back at zero. -/
theorem wp_sync {α : Type} {sp sp' : Space} {s : Shape} {e : EltTy} {src : Memref sig .scVector sp s e} {dst : Memref sig .scVector sp' s e} {sm : DmaSem sig}
    (hsm : (SemLoc.dma sm : SemLoc sig).isScoped .scVector = true) (hs : 0 < s.numel)
    {q : PosShare TreeShare} {fs : Buf (Elt F) (src.view.loc (thr d L))} {Sd : Finset (Idx (dst.view.loc (thr d L)))} {fd : Buf (Elt F) (dst.view.loc (thr d L))}
    (hSd : dst.view.set ⊆ Sd) {h1 h2 h3 h4 h5} {k : PUnit → TileProg (F := F) L α} {Q : α → sProp 𝕄} :
    iprop((src.view.loc (thr d L) ↦[src.view.set]{q} fs) ∗ (dst.view.loc (thr d L) ↦[Sd]{fullShare} fd)
        ∗ Transfers.MayWaits (thr d L) (default : HIx 1) O ∗ ownSems0 (thr d L) ∗ Owes d L O)
      ⊢ iprop((((src.view.loc (thr d L) ↦[src.view.set]{q} fs)
              ∗ (dst.view.loc (thr d L) ↦[Sd]{fullShare} (dst.view.write (Elt F) fd (src.view.read (Elt F) fs) Finset.univ))
              ∗ ownSems0 (thr d L) ∗ Owes d L O)
            -∗ wp frame (wpE (defs₀ (F := F)) 𝒱₀ (thr d L) none) Set.univ (k ⟨⟩) Q)
          -∗ wp frame (wpE (defs₀ (F := F)) 𝒱₀ (thr d L) none) Set.univ
              (Prog.lift (.enqueueDma src (.here dst) (.dma sm) h1 h2 h3) >>= fun _ => Prog.lift (.waitDma2 sm src dst h4 h5) >>= k) Q) := by
  rw [show (ownSems0 (thr d L) : sProp 𝕄) = iprop(semVal (thr d L, SemLoc.dma sm) 0 ∗ bigSep ((ownCells (thr d L)).erase (thr d L, SemLoc.dma sm)) fun g => semVal g 0) from by
    unfold SparseCore.Cfg.ownSems0
    exact SparseCore.bigSep_erase' ((mem_ownCells (g := (thr d L, SemLoc.dma sm))).mpr ⟨rfl, hsm⟩)]
  iintro ⟨Hs, Hd, #Hmw, ⟨Hv, Hsems⟩, ⟨%W, HO⟩⟩ Hk
  iapply (Transfers.wp_dmaLocal countersEmb 𝒱₀ (thr d L) none (default : HIx 1) _ rfl (View.amount_pos _ _ hs) hSd) $$ [Hs Hd Hv]
  · isplitl [Hs]; · iexact Hs
    isplitl [Hd]; · iexact Hd
    iexact Hv
  iintro Hfl
  ihave Hm := (Transfers.MayWaits.elim (SemLoc.dma sm)) $$ Hmw
  iapply (Transfers.wp_waitLocalO countersEmb 𝒱₀ (thr d L) none (default : HIx 1) rfl) $$ [Hfl HO Hm]
  · isplitl [Hfl]; · iexact Hfl
    isplitl [HO]; · iexact HO
    iexact Hm
  iintro ⟨⟨Hd, Hs⟩, Hv, HO⟩
  iapply Hk
  isplitl [Hs]; · iexact Hs
  isplitl [Hd]; · iexact Hd
  isplitl [Hv Hsems]
  · isplitl [Hv]; · iexact Hv
    iexact Hsems
  iexists _; iexact HO

/-! ## A tile's state -/

variable (d L O) in
/-- What the tile holds with `n` of its rows done: the tokens at a share, its two buffers `B` and `Z`, its part of the
    output, its semaphores at zero. -/
def St (B Z : sProp 𝕄) (q : PosShare TreeShare) (flat : Buf (Elt F) (fLoc d)) (z : Elt F .f32) (a e : ℕ) (n : ℕ) : sProp 𝕄 :=
  iprop(Transfers.MayWaits (thr d L) (default : HIx 1) O ∗ (fLoc d ↦{q} flat) ∗ B ∗ Z
    ∗ (∃ g, ⌜Good L flat z a e n g⌝ ∗ oLoc d ↦[tileSet L]{fullShare} g) ∗ ownSems0 (thr d L) ∗ Owes d L O)

/-- A copying step: `sz` rows of the tokens through the buffer to the output. -/
theorem copy_step {α : Type} {sz n : ℕ} {B Z : sProp 𝕄} {q : PosShare TreeShare} {flat : Buf (Elt F) (fLoc d)} {z : Elt F .f32} {a e : ℕ}
    {buf : Memref sig .scVector .vmem (Rows sz) .f32} (hB : B = iprop(∃ f, buf.view.loc (thr d L) ↦{fullShare} f))
    {off inb off' inb'} {hq : (Rows1 sz).Squeezes (Rows sz)} {s1 s2 : DmaSem sig}
    (hs1 : (SemLoc.dma s1 : SemLoc sig).isScoped .scVector = true) (hs2 : (SemLoc.dma s2 : SemLoc sig).isScoped .scVector = true) (hsz : 0 < sz)
    (hoff : off = ![a + 2048 * (L 0).val + n, 0]) (hoff' : off' = ![(L 1).val, 2048 * (L 0).val + n, 0])
    (hn : n + sz ≤ valid (L 0).val a e) {h1 h2 h3 h4 h5 h6 h7 h8 h9 h10} {k : PUnit → TileProg (F := F) L α} {Q : α → sProp 𝕄}
    (hk : St d L O B Z q flat z a e (n + sz) ⊢ wp frame (wpE (defs₀ (F := F)) 𝒱₀ (thr d L) none) Set.univ (k ⟨⟩) Q) (he : e ≤ 32768) :
    St d L O B Z q flat z a e n ⊢ wp frame (wpE (defs₀ (F := F)) 𝒱₀ (thr d L) none) Set.univ
      (Prog.lift (.enqueueDma (srcM (sz := sz) off inb) (.here buf) (.dma s1) h1 h2 h3) >>= fun _ =>
        Prog.lift (.waitDma2 s1 (srcM (sz := sz) off inb) buf h4 h5) >>= fun _ =>
        Prog.lift (.enqueueDma buf (.here (dstM (sz := sz) off' inb' hq)) (.dma s2) h6 h7 h8) >>= fun _ =>
        Prog.lift (.waitDma2 s2 buf (dstM (sz := sz) off' inb' hq) h9 h10) >>= k) Q := by
  rw [hB] at hk ⊢
  have hnum : 0 < (Rows sz).numel := by simp [Shape.numel, Fin.prod_univ_two, hsz]
  have hsub : n + sz ≤ 2048 := hn.trans (valid_le _ _ _)
  unfold St
  iintro ⟨#Hmw, Hf, ⟨%fb, Hb⟩, HZ, ⟨%g, %hg, Ho⟩, Hsems, HO⟩
  ihave Hf' := (pointsTo_split_subset (q := q) (f := flat) (S := Finset.univ) (Finset.subset_univ (srcM (sz := sz) off inb).view.set)).1 $$ Hf
  icases Hf' with ⟨Hf, Hfr⟩
  iapply (wp_sync (src := srcM (sz := sz) off inb) (dst := buf) hs1 hnum (q := q) (fs := flat) (fd := fb) (Finset.subset_univ _)) $$ [Hf Hb Hsems HO]
  · isplitl [Hf]; · iexact Hf
    isplitl [Hb]; · iexact Hb
    isplitr; · iexact Hmw
    isplitl [Hsems] <;> iassumption
  iintro ⟨Hf, Hb, Hsems, HO⟩
  ihave Hb' := (pointsTo_split_subset (q := fullShare) (S := Finset.univ) (Finset.subset_univ buf.view.set)).1 $$ Hb
  icases Hb' with ⟨Hb, Hbr⟩
  iapply (wp_sync (src := buf) (dst := dstM (sz := sz) off' inb' hq) hs2 hnum (q := fullShare) (fd := g) (dst_subset hsub off' inb' hq hoff')) $$ [Hb Ho Hsems HO]
  · isplitl [Hb]; · iexact Hb
    isplitl [Ho]; · iexact Ho
    isplitr; · iexact Hmw
    isplitl [Hsems] <;> iassumption
  iintro ⟨Hb, Ho, Hsems, HO⟩
  iapply hk
  unfold St
  isplitr; · iexact Hmw
  isplitl [Hf Hfr]
  · iapply (pointsTo_split_subset (q := q) (f := flat) (S := Finset.univ) (Finset.subset_univ (srcM (sz := sz) off inb).view.set)).2
    isplitl [Hf]; · iexact Hf
    iexact Hfr
  isplitl [Hb Hbr]
  · iexists _
    iapply (pointsTo_split_subset (q := fullShare) (S := Finset.univ) (Finset.subset_univ buf.view.set)).2
    isplitl [Hb]; · iexact Hb
    iexact Hbr
  isplitl [HZ]; · iexact HZ
  isplitl [Ho]
  · iexists ((dstM (sz := sz) off' inb' hq).view.write (Elt F) g (buf.view.read (Elt F)
      (buf.view.write (Elt F) fb ((srcM (sz := sz) off inb).view.read (Elt F) flat) Finset.univ)) Finset.univ)
    isplitr
    · ipureintro
      refine good_write hg off' inb' hq hoff' _ fun j => ?_
      rw [View.read_write_univ]
      obtain ⟨e0, e1⟩ := srcM_emb off inb _ hoff j
      have hj : (j 0).val < sz := (j 0).isLt
      have hv : a + (2048 * (L 0).val + n + (j 0).val) < e := by unfold valid at hn; omega
      unfold rowVal
      rw [if_pos hv]
      refine (View.read_apply _ _).trans ((cast_eq _ _).trans (congrArg flat ?_))
      funext x
      match x with
      | 0 => exact Fin.ext (e0.trans (by show _ = (a + (2048 * (L 0).val + n + (j 0).val)) % 32768; rw [Nat.mod_eq_of_lt (by omega)]; omega))
      | 1 => exact e1
    · iexact Ho
  isplitl [Hsems] <;> iassumption

/-- A zeroing step: `sz` rows of zeros to the output. -/
theorem zero_step {α : Type} {sz n : ℕ} {B Z : sProp 𝕄} {q : PosShare TreeShare} {flat : Buf (Elt F) (fLoc d)} {z : Elt F .f32} {a e : ℕ}
    {buf : Memref sig .scVector .vmem (Rows sz) .f32} {fz : Buf (Elt F) (buf.view.loc (thr d L))}
    (hZ : Z = iprop(buf.view.loc (thr d L) ↦{fullShare} fz)) (hz : ∀ j, buf.view.read (Elt F) fz j = z)
    {off' inb'} {hq : (Rows1 sz).Squeezes (Rows sz)} {s2 : DmaSem sig}
    (hs2 : (SemLoc.dma s2 : SemLoc sig).isScoped .scVector = true) (hsz : 0 < sz)
    (hoff' : off' = ![(L 1).val, 2048 * (L 0).val + n, 0])
    (hn : n + sz ≤ 2048) (hv : valid (L 0).val a e ≤ n) {h6 h7 h8 h9 h10} {k : PUnit → TileProg (F := F) L α} {Q : α → sProp 𝕄}
    (hk : St d L O B Z q flat z a e (n + sz) ⊢ wp frame (wpE (defs₀ (F := F)) 𝒱₀ (thr d L) none) Set.univ (k ⟨⟩) Q) :
    St d L O B Z q flat z a e n ⊢ wp frame (wpE (defs₀ (F := F)) 𝒱₀ (thr d L) none) Set.univ
      (Prog.lift (.enqueueDma buf (.here (dstM (sz := sz) off' inb' hq)) (.dma s2) h6 h7 h8) >>= fun _ =>
        Prog.lift (.waitDma2 s2 buf (dstM (sz := sz) off' inb' hq) h9 h10) >>= k) Q := by
  rw [hZ] at hk ⊢
  have hnum : 0 < (Rows sz).numel := by simp [Shape.numel, Fin.prod_univ_two, hsz]
  unfold St
  iintro ⟨#Hmw, Hf, HB, Hb, ⟨%g, %hg, Ho⟩, Hsems, HO⟩
  ihave Hb' := (pointsTo_split_subset (q := fullShare) (S := Finset.univ) (Finset.subset_univ buf.view.set)).1 $$ Hb
  icases Hb' with ⟨Hb, Hbr⟩
  iapply (wp_sync (src := buf) (dst := dstM (sz := sz) off' inb' hq) hs2 hnum (q := fullShare) (fd := g) (dst_subset hn off' inb' hq hoff')) $$ [Hb Ho Hsems HO]
  · isplitl [Hb]; · iexact Hb
    isplitl [Ho]; · iexact Ho
    isplitr; · iexact Hmw
    isplitl [Hsems] <;> iassumption
  iintro ⟨Hb, Ho, Hsems, HO⟩
  iapply hk
  unfold St
  isplitr; · iexact Hmw
  isplitl [Hf]; · iexact Hf
  isplitl [HB]; · iexact HB
  isplitl [Hb Hbr]
  · iapply (pointsTo_split_subset (q := fullShare) (S := Finset.univ) (Finset.subset_univ buf.view.set)).2
    isplitl [Hb]; · iexact Hb
    iexact Hbr
  isplitl [Ho]
  · iexists ((dstM (sz := sz) off' inb' hq).view.write (Elt F) g (buf.view.read (Elt F) fz) Finset.univ)
    isplitr
    · ipureintro
      refine good_write hg off' inb' hq hoff' _ fun j => (hz j).trans ?_
      have hj : (j 0).val < sz := (j 0).isLt
      have hv : ¬ a + (2048 * (L 0).val + n + (j 0).val) < e := by unfold valid at hv; omega
      unfold rowVal
      rw [if_neg hv]
    · iexact Ho
  isplitl [Hsems] <;> iassumption

end Step

end Cert.KernelIdeal.Pf
-- ==== Proof.TileIdeal.lean ====
module

public import proofs.«01_k».proof.Proof.CopyIdeal

/-!
# A tile's run

The kernel's body on one tile, from none of its rows done to all of them.
-/

@[expose] public section

noncomputable section

namespace Cert.KernelIdeal.Pf

open Cert.KernelIdeal Cert.KernelIdeal.Gen Cert.Proof.Words
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The printed parts at the tile's own buffers and semaphores -/

abbrev part1 (L : grid0.Coords) := k0_part1_skel (F := F) L fV (Memref.isWhole_whole _) pV (Memref.isWhole_whole _) zV (Memref.isWhole_whole _) oV (Memref.isWhole_whole _) cuV (Memref.isWhole_whole _) bV (Memref.isWhole_whole _) zbV (Memref.isWhole_whole _)
    cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24
abbrev part2 (L : grid0.Coords) := k0_part2_skel (F := F) L fV (Memref.isWhole_whole _) pV (Memref.isWhole_whole _) zV (Memref.isWhole_whole _) oV (Memref.isWhole_whole _) cuV (Memref.isWhole_whole _) bV (Memref.isWhole_whole _) zbV (Memref.isWhole_whole _)
    cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24
abbrev part3 (L : grid0.Coords) := k0_part3_skel (F := F) L fV (Memref.isWhole_whole _) pV (Memref.isWhole_whole _) zV (Memref.isWhole_whole _) oV (Memref.isWhole_whole _) cuV (Memref.isWhole_whole _) bV (Memref.isWhole_whole _) zbV (Memref.isWhole_whole _)
    cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24
abbrev part4 (L : grid0.Coords) := k0_part4_skel (F := F) L fV (Memref.isWhole_whole _) pV (Memref.isWhole_whole _) zV (Memref.isWhole_whole _) oV (Memref.isWhole_whole _) cuV (Memref.isWhole_whole _) bV (Memref.isWhole_whole _) zbV (Memref.isWhole_whole _)
    cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24
abbrev body (L : grid0.Coords) := cc0__pad_stack_body_skel (F := F) L fV (Memref.isWhole_whole _) pV (Memref.isWhole_whole _) zV (Memref.isWhole_whole _) oV (Memref.isWhole_whole _) cuV (Memref.isWhole_whole _) bV (Memref.isWhole_whole _) zbV (Memref.isWhole_whole _)
    cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24

variable {d : Dev nD} {L : grid0.Coords} {O : CellTallies nD τ sig (HIx 1)}

/-- The copying buffer at any contents. -/
abbrev BufB (d : Dev nD) (L : grid0.Coords) : sProp 𝕄 := iprop(∃ f, (bV).view.loc (thr d L) ↦{fullShare} f)
/-- The zeroing buffer, all zeros. -/
abbrev BufZ (d : Dev nD) (L : grid0.Coords) (z : Elt F .f32) : sProp 𝕄 := iprop((zbV).view.loc (thr d L) ↦{fullShare} fun _ => z)

/-- The tile's state at its own buffers. -/
abbrev Tst (d : Dev nD) (L : grid0.Coords) (O : CellTallies nD τ sig (HIx 1)) (q : PosShare TreeShare) (flat : Buf (Elt F) (fLoc d)) (z : Elt F .f32)
    (a e : BitVec 32) (n : ℕ) : sProp 𝕄 :=
  St d L O (BufB d L) (BufZ d L z) q flat z a.toNat e.toNat n

/-- A step under a condition, and what runs after it either way. -/
theorem wp_if {α : Type} {C : Prop} [Decidable C] {P P' : sProp 𝕄} {thenP : C → TileProg (F := F) L α} {k : TileProg (F := F) L α} {Q : α → sProp 𝕄}
    (hk : P' ⊢ wp frame (wpE (defs₀ (F := F)) 𝒱₀ (thr d L) none) Set.univ k Q)
    (hpos : ∀ hc : C, (P' ⊢ wp frame (wpE (defs₀ (F := F)) 𝒱₀ (thr d L) none) Set.univ k Q) →
      (P ⊢ wp frame (wpE (defs₀ (F := F)) 𝒱₀ (thr d L) none) Set.univ (thenP hc) Q))
    (hneg : ¬C → P ⊢ P') :
    P ⊢ wp frame (wpE (defs₀ (F := F)) 𝒱₀ (thr d L) none) Set.univ (dite C thenP fun _ => k) Q := by
  by_cases hc : C
  · rw [dif_pos hc]; exact hpos hc hk
  · rw [dif_neg hc]; exact (hneg hc).trans hk

/-- A counted loop by its invariant, and what runs after it. -/
theorem wp_loop {α : Type} {l : Scf.Loop 32} {hok : l.OK} {b : Fin l.trips → Unit → TileProg (F := F) L Unit} (I : ℕ → sProp 𝕄)
    (hb : ∀ t : Fin l.trips, I t.val ⊢ wp frame (wpE (defs₀ (F := F)) 𝒱₀ (thr d L) none) Set.univ (b t ()) fun _ => I (t.val + 1))
    {k : Unit → TileProg (F := F) L α} {Q : α → sProp 𝕄}
    (hk : I l.trips ⊢ wp frame (wpE (defs₀ (F := F)) 𝒱₀ (thr d L) none) Set.univ (k ()) Q) :
    I 0 ⊢ wp frame (wpE (defs₀ (F := F)) 𝒱₀ (thr d L) none) Set.univ (Scf.Loop.for l hok () b >>= k) Q := by
  iintro HI
  iapply (Scf.wp_for_bind frame (wpE (defs₀ (F := F)) 𝒱₀ (thr d L) none) Set.univ l.lb l.ub l.st hok () b (fun t _ => I t) (fun t _ => hb t)) $$ HI
  iintro %_ HI
  iapply hk; iexact HI

/-- The end of a program. -/
theorem wp_end {α : Type} {P : sProp 𝕄} {r : α} {Q : α → sProp 𝕄} (h : P ⊢ Q r) :
    P ⊢ wp frame (wpE (defs₀ (F := F)) 𝒱₀ (thr d L) none) Set.univ (pure r : TileProg (F := F) L α) Q := by
  rw [wp_pure]
  exact h.trans fupd_intro

/-- A step under a condition that is a bit of a count `v`: with the counts' bits above it done, after it those from it are. -/
theorem bit_if {α : Type} {C : Prop} [Decidable C] {P : ℕ → sProp 𝕄} {v j : ℕ} {thenP : C → TileProg (F := F) L α} {k : TileProg (F := F) L α}
    {Q : α → sProp 𝕄} (hc : C ↔ v / 2 ^ j % 2 = 1)
    (hk : P (v / 2 ^ j * 2 ^ j) ⊢ wp frame (wpE (defs₀ (F := F)) 𝒱₀ (thr d L) none) Set.univ k Q)
    (hpos : ∀ hC : C, v / 2 ^ j % 2 = 1 →
      (P (v / 2 ^ (j + 1) * 2 ^ (j + 1) + 2 ^ j) ⊢ wp frame (wpE (defs₀ (F := F)) 𝒱₀ (thr d L) none) Set.univ k Q) →
      (P (v / 2 ^ (j + 1) * 2 ^ (j + 1)) ⊢ wp frame (wpE (defs₀ (F := F)) 𝒱₀ (thr d L) none) Set.univ (thenP hC) Q)) :
    P (v / 2 ^ (j + 1) * 2 ^ (j + 1)) ⊢ wp frame (wpE (defs₀ (F := F)) 𝒱₀ (thr d L) none) Set.univ (dite C thenP fun _ => k) Q := by
  refine wp_if (P' := P (v / 2 ^ j * 2 ^ j)) hk (fun hC hk => hpos hC (hc.1 hC) ?_) (fun hC => ?_)
  · rw [← clear_step_set v j (hc.1 hC)]; exact hk
  · rw [← clear_step_unset v j (mt hc.2 hC)]

section Parts
variable {q : PosShare TreeShare} {flat : Buf (Elt F) (fLoc d)} {z : Elt F .f32} {a e : BitVec 32}

/-- What the full copies and the first partial one do. -/
theorem part2_run (h : Seg a e) (v29 : BitVec 32) (hw : k0_chk1 L a e) (v37 : BitVec 32) :
    Tst d L O q flat z a e 0
      ⊢ wp frame (wpE (defs₀ (F := F)) 𝒱₀ (thr d L) none) Set.univ (part2 L v29 a e hw v37)
          fun _ => Tst d L O q flat z a e (vt L a e / 2 ^ 5 * 2 ^ 5) := by
  unfold part2 k0_part2_skel
  refine wp_loop (fun t => Tst d L O q flat z a e (64 * t)) (fun t => ?_) ?_
  · have ht := t1_lt h t
    refine copy_step (sz := 64) (n := 64 * t.val) ?_ ?_ ?_ ?_ ?_ ?_ ?_ ?_ ?_
    · rfl
    · rfl
    · rfl
    · decide
    · exact off2_eq h t
    · exact off3_eq h t
    · show _ ≤ vt L a e
      omega
    · exact wp_end BIBase.Entails.rfl
    · exact h.inb
  refine wp_loop (fun _ => Tst d L O q flat z a e (64 * (k0_t1_loop L a e).trips)) (fun t => ?_) ?_
  · exact absurd (lt_of_lt_of_eq t.isLt (t2_trips (i := L))) (Nat.not_lt_zero _)
  rw [t1_trips h, show 64 * (vt L a e / 64) = vt L a e / 2 ^ 6 * 2 ^ 6 from Nat.mul_comm _ _]
  refine bit_if (P := Tst d L O q flat z a e) (cond1_iff h) (wp_end BIBase.Entails.rfl) fun hc hb hk => ?_
  refine copy_step (sz := 32) (n := vt L a e / 2 ^ 6 * 2 ^ 6) ?_ ?_ ?_ ?_ ?_ ?_ ?_ ?_ ?_
  exacts [rfl, rfl, rfl, by decide, off6_eq h, off7_eq h, step_le hb, hk, h.inb]

/-- What the next four partial copies do. -/
theorem part3_run (h : Seg a e) (v29 : BitVec 32) (hw : k0_chk1 L a e) (v59 v60 v66 : BitVec 32) :
    Tst d L O q flat z a e (vt L a e / 2 ^ 5 * 2 ^ 5)
      ⊢ wp frame (wpE (defs₀ (F := F)) 𝒱₀ (thr d L) none) Set.univ (part3 L v29 a e hw v59 v60 v66)
          fun _ => Tst d L O q flat z a e (vt L a e / 2 ^ 1 * 2 ^ 1) := by
  unfold part3 k0_part3_skel
  refine bit_if (P := Tst d L O q flat z a e) (cond2_iff h) ?_ fun hc hb hk => ?_
  rotate_left
  · refine copy_step (sz := 16) (n := vt L a e / 2 ^ 5 * 2 ^ 5) ?_ ?_ ?_ ?_ ?_ ?_ ?_ ?_ ?_
    exacts [rfl, rfl, rfl, by decide, off8_eq h, off9_eq h, step_le hb, hk, h.inb]
  refine bit_if (P := Tst d L O q flat z a e) (cond3_iff h) ?_ fun hc hb hk => ?_
  rotate_left
  · refine copy_step (sz := 8) (n := vt L a e / 2 ^ 4 * 2 ^ 4) ?_ ?_ ?_ ?_ ?_ ?_ ?_ ?_ ?_
    exacts [rfl, rfl, rfl, by decide, off10_eq h, off11_eq h, step_le hb, hk, h.inb]
  refine bit_if (P := Tst d L O q flat z a e) (cond4_iff h) ?_ fun hc hb hk => ?_
  rotate_left
  · refine copy_step (sz := 4) (n := vt L a e / 2 ^ 3 * 2 ^ 3) ?_ ?_ ?_ ?_ ?_ ?_ ?_ ?_ ?_
    exacts [rfl, rfl, rfl, by decide, off12_eq h, off13_eq h, step_le hb, hk, h.inb]
  refine bit_if (P := Tst d L O q flat z a e) (cond5_iff h) (wp_end BIBase.Entails.rfl) fun hc hb hk => ?_
  refine copy_step (sz := 2) (n := vt L a e / 2 ^ 2 * 2 ^ 2) ?_ ?_ ?_ ?_ ?_ ?_ ?_ ?_ ?_
  exacts [rfl, rfl, rfl, by decide, off14_eq h, off15_eq h, step_le hb, hk, h.inb]

/-- What the last partial copy and the full blocks of zeros do. -/
theorem part4_run (h : Seg a e) (v29 : BitVec 32) (hw : k0_chk1 L a e) (v40 v60 v104 v105 c0 : BitVec 32) :
    Tst d L O q flat z a e (vt L a e / 2 ^ 1 * 2 ^ 1)
      ⊢ wp frame (wpE (defs₀ (F := F)) 𝒱₀ (thr d L) none) Set.univ (part4 L v29 a e hw v40 v60 v104 v105 c0)
          fun _ => Tst d L O q flat z a e (vt L a e + zt L a e / 2 ^ 5 * 2 ^ 5) := by
  unfold part4 k0_part4_skel
  refine bit_if (P := Tst d L O q flat z a e) (cond6_iff h) ?_ fun hc hb hk => ?_
  rotate_left
  · refine copy_step (sz := 1) (n := vt L a e / 2 ^ 1 * 2 ^ 1) ?_ ?_ ?_ ?_ ?_ ?_ ?_ ?_ ?_
    exacts [rfl, rfl, rfl, by decide, off16_eq h, off17_eq h, step_le hb, hk, h.inb]
  rw [show vt L a e / 2 ^ 0 * 2 ^ 0 = vt L a e + 32 * 0 by simp]
  refine wp_loop (fun t => Tst d L O q flat z a e (vt L a e + 32 * t)) (fun t => ?_) ?_
  · have ht := t3_lt h t
    have hv := vt_le (i := L) (a := a) (e := e)
    refine zero_step (sz := 32) (n := vt L a e + 32 * t.val) (fz := fun _ => z) ?_ ?_ ?_ ?_ ?_ ?_ ?_ ?_
    · rfl
    · exact fun _ => rfl
    · rfl
    · decide
    · exact off18_eq h t
    · unfold zt at ht
      omega
    · exact Nat.le_add_right _ _
    · exact wp_end BIBase.Entails.rfl
  refine wp_loop (fun _ => Tst d L O q flat z a e (vt L a e + 32 * (k0_t3_loop L a e).trips)) (fun t => ?_) ?_
  · exact absurd (lt_of_lt_of_eq t.isLt (t4_trips (i := L))) (Nat.not_lt_zero _)
  rw [t3_trips h, show 32 * (zt L a e / 32) = zt L a e / 2 ^ 5 * 2 ^ 5 from Nat.mul_comm _ _]
  exact wp_end BIBase.Entails.rfl

end Parts

end Cert.KernelIdeal.Pf
-- ==== Proof.BodyIdeal.lean ====
module

public import proofs.«01_k».proof.Proof.TileIdeal
public import Idealize.ShloMosaic.Lib.Pipeline.Value

/-!
# A tile's run, whole

The kernel's body on one tile: the segment's bounds are read, then its rows are written, all of them.
-/

@[expose] public section

noncomputable section

namespace Cert.KernelIdeal.Pf

open Cert.KernelIdeal Cert.KernelIdeal.Gen Cert.Proof.Words
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {L : grid0.Coords} {O : CellTallies nD τ sig (HIx 1)}

/-- Entry `n` of the padded segment bounds. -/
def segAt (pc : S32.Idx → BitVec 32) (n : ℕ) : BitVec 32 := pc (ix1 ⟨n % 32, Nat.mod_lt _ (by decide)⟩)

/-- The bounds a tile reads are its batch entry's start and end. -/
theorem lo_eq (d : Dev nD) (L : grid0.Coords) (pc : Buf (Elt F) ((cuV).view.loc (thr d L))) :
    extractAt ![0] (k0_pay2 (F := F) (((cuV).access (Rect.unit (s := S32) (k0_off1 L) S16.size (k0_off1_inb L))).read (Elt F) pc)) inpos_S1_p0
      = segAt pc (L 1).val := by
  simp only [k0_pay2, k0_pay1, shapeCast_self]
  show View.read (Elt F) ((cuV).access (Rect.unit (s := S32) (k0_off1 L) S16.size (k0_off1_inb L))) pc _ = _
  rw [View.read_apply]
  refine (cast_eq _ _).trans (congrArg pc ?_)
  funext x
  match x with
  | 0 =>
    refine Fin.ext ?_
    show (batchW (L 1).val (L 0).val).toNat + 1 * (0 + 0) = (L 1).val % 32
    have := s_lt L
    rw [batch_nat]; omega

theorem hi_eq (d : Dev nD) (L : grid0.Coords) (pc : Buf (Elt F) ((cuV).view.loc (thr d L))) :
    extractAt ![0] (k0_pay3 (F := F) (((cuV).access (Rect.unit (s := S32) (k0_off1 L) S16.size (k0_off1_inb L))).read (Elt F) pc)) inpos_S1_p0
      = segAt pc ((L 1).val + 1) := by
  simp only [k0_pay3, k0_pay1, shapeCast_self]
  show View.read (Elt F) ((cuV).access (Rect.unit (s := S32) (k0_off1 L) S16.size (k0_off1_inb L))) pc _ = _
  rw [View.read_apply]
  refine (cast_eq _ _).trans (congrArg pc ?_)
  funext x
  match x with
  | 0 =>
    refine Fin.ext ?_
    show (batchW (L 1).val (L 0).val).toNat + 1 * (1 + 0) = ((L 1).val + 1) % 32
    have := s_lt L
    rw [batch_nat]; omega

section Whole
variable {q : PosShare TreeShare} {flat : Buf (Elt F) (fLoc d)} {pc : Buf (Elt F) (pLoc d)} {z : Elt F .f32} {g₀ : Buf (Elt F) (oLoc d)}

/-- What a tile reads besides the tokens, and its buffer for the bounds. -/
abbrev Xtra (d : Dev nD) (L : grid0.Coords) (q : PosShare TreeShare) (pc : Buf (Elt F) (pLoc d)) (z : Elt F .f32) : sProp 𝕄 :=
  iprop((pLoc d ↦{q} pc) ∗ (zLoc d ↦{q} fun _ => z) ∗ ∃ f, (cuV).view.loc (thr d L) ↦{fullShare} f)

/-- What a tile starts from. -/
abbrev Start (d : Dev nD) (L : grid0.Coords) (O : CellTallies nD τ sig (HIx 1)) (q : PosShare TreeShare) (flat : Buf (Elt F) (fLoc d))
    (pc : Buf (Elt F) (pLoc d)) (z : Elt F .f32) (g₀ : Buf (Elt F) (oLoc d)) : sProp 𝕄 :=
  iprop(Transfers.MayWaits (thr d L) (default : HIx 1) O ∗ (fLoc d ↦{q} flat) ∗ (pLoc d ↦{q} pc) ∗ (zLoc d ↦{q} fun _ => z)
    ∗ (∃ f, (cuV).view.loc (thr d L) ↦{fullShare} f) ∗ BufB d L ∗ (∃ f, (zbV).view.loc (thr d L) ↦{fullShare} f)
    ∗ (oLoc d ↦[tileSet L]{fullShare} g₀) ∗ ownSems0 (thr d L) ∗ Owes d L O)

/-- With no row done the output's part is at anything. -/
theorem st_zero {a e : BitVec 32} :
    iprop(Transfers.MayWaits (thr d L) (default : HIx 1) O ∗ (fLoc d ↦{q} flat) ∗ BufB d L ∗ BufZ d L z ∗ (oLoc d ↦[tileSet L]{fullShare} g₀)
      ∗ ownSems0 (thr d L) ∗ Owes d L O) ⊢ Tst d L O q flat z a e 0 := by
  unfold Tst St
  iintro ⟨#Hmw, Hf, HB, Hzb, Ho, Hsems, HO⟩
  isplitr; · iexact Hmw
  isplitl [Hf]; · iexact Hf
  isplitl [HB]; · iexact HB
  isplitl [Hzb]; · iexact Hzb
  isplitl [Ho]
  · iexists g₀
    isplitr
    · ipureintro
      intro x _ h1 h2
      exact absurd h2 (by omega)
    · iexact Ho
  isplitl [Hsems] <;> iassumption

/-- The bounds and the zeros fetched, the bounds read, their check passed: no row is done yet. -/
theorem part1_run (h : Seg (segAt pc (L 1).val) (segAt pc ((L 1).val + 1))) :
    Start d L O q flat pc z g₀
      ⊢ wp frame (wpE (defs₀ (F := F)) 𝒱₀ (thr d L) none) Set.univ (part1 L)
          fun r => iprop(⌜r.2.1 = segAt pc (L 1).val ∧ r.2.2.1 = segAt pc ((L 1).val + 1)⌝ ∗ Tst d L O q flat z r.2.1 r.2.2.1 0 ∗ Xtra d L q pc z) := by
  unfold part1 k0_part1_skel
  iintro ⟨#Hmw, Hf, Hp, Hz, ⟨%fc, Hc⟩, HB, ⟨%fz, Hzb⟩, Ho, Hsems, HO⟩
  have hps : (pV).view.set = Finset.univ := View.set_whole _
  have hzs : (zV).view.set = Finset.univ := View.set_whole _
  iapply (wp_sync (src := pV) (dst := cuV) (sm := cc0_scoped0.sem) rfl (by decide) (q := q) (fs := pc) (fd := fc) (Finset.subset_univ _)) $$ [Hp Hc Hsems HO]
  · isplitl [Hp]; · rw [hps]; iexact Hp
    isplitl [Hc]; · iexact Hc
    isplitr; · iexact Hmw
    isplitl [Hsems] <;> iassumption
  iintro ⟨Hp, Hc, Hsems, HO⟩
  iapply (wp_sync (src := zV) (dst := zbV) (sm := cc0_scoped1.sem) rfl (by decide) (q := q) (fs := fun _ => z) (fd := fz) (Finset.subset_univ _)) $$ [Hz Hzb Hsems HO]
  · isplitl [Hz]; · rw [hzs]; iexact Hz
    isplitl [Hzb]; · iexact Hzb
    isplitr; · iexact Hmw
    isplitl [Hsems] <;> iassumption
  iintro ⟨Hz, Hzb, Hsems, HO⟩
  rw [hps, hzs]
  rw [show (cuV).view.write (Elt F) fc ((pV).view.read (Elt F) pc) Finset.univ = pc from View.write_whole_univ _ _ _,
    show (zbV).view.write (Elt F) fz ((zV).view.read (Elt F) fun _ => z) Finset.univ = fun _ => z from View.write_whole_univ _ _ _]
  ihave Hc' := (show ((cuV).view.loc (thr d L) ↦{fullShare} pc : sProp 𝕄) ⊢ ((cuV).access (Rect.unit (s := S32) (k0_off1 L) S16.size (k0_off1_inb L))).loc (thr d L) ↦{fullShare} pc
    from BIBase.Entails.rfl) $$ Hc
  iapply (wp_load_rect 𝒱₀ (thr d L) none Set.univ (m := cuV) (r := Rect.unit (s := S32) (k0_off1 L) S16.size (k0_off1_inb L)) (S := Finset.univ) (q := fullShare) (f := pc)
    (Finset.subset_univ _)) $$ Hc'
  iintro Hc
  have e1 := lo_eq d L pc
  have e2 := hi_eq d L pc
  have hch := chk (i := L) h
  rw [← e1, ← e2] at hch
  iapply (wp_assume 𝒱₀ (thr d L) none Set.univ hch)
  iapply (wp_end BIBase.Entails.rfl)
  isplitr
  · ipureintro
    exact ⟨e1, e2⟩
  isplitr [Hp Hz Hc]
  · iapply (st_zero (g₀ := g₀))
    isplitr; · iexact Hmw
    isplitl [Hf]; · iexact Hf
    isplitl [HB]; · iexact HB
    isplitl [Hzb]; · iexact Hzb
    isplitl [Ho]; · iexact Ho
    isplitl [Hsems] <;> iassumption
  isplitl [Hp]; · iexact Hp
  isplitl [Hz]; · iexact Hz
  iexists _; iexact Hc

/-- A part of a tile's run keeps what it does not use. -/
theorem wp_part {α : Type} {A X : sProp 𝕄} {B : α → sProp 𝕄} {k : TileProg (F := F) L α}
    (h : A ⊢ wp frame (wpE (defs₀ (F := F)) 𝒱₀ (thr d L) none) Set.univ k B) :
    iprop(A ∗ X) ⊢ wp frame (wpE (defs₀ (F := F)) 𝒱₀ (thr d L) none) Set.univ k fun r => iprop(B r ∗ X) :=
  (sep_mono_left h).trans (wp_frame_r _ _ _)

/-- One part after another. -/
theorem wp_then {α β : Type} {A : sProp 𝕄} {B : α → sProp 𝕄} {Q : β → sProp 𝕄} {p : TileProg (F := F) L α} {k : α → TileProg (F := F) L β}
    (hp : A ⊢ wp frame (wpE (defs₀ (F := F)) 𝒱₀ (thr d L) none) Set.univ p B)
    (hk : ∀ r, B r ⊢ wp frame (wpE (defs₀ (F := F)) 𝒱₀ (thr d L) none) Set.univ (k r) Q) :
    A ⊢ wp frame (wpE (defs₀ (F := F)) 𝒱₀ (thr d L) none) Set.univ (p >>= k) Q := by
  rw [wp_bind]
  exact hp.trans (wp_mono frame _ _ hk)

theorem pure_sep_elim {φ : Prop} {A B : sProp 𝕄} (h : φ → (A ⊢ B)) : iprop(⌜φ⌝ ∗ A) ⊢ B := by
  iintro ⟨%hφ, H⟩
  iapply (h hφ)
  iexact H

/-- The body, whole. -/
theorem body_run (h : Seg (segAt pc (L 1).val) (segAt pc ((L 1).val + 1))) :
    Start d L O q flat pc z g₀
      ⊢ wp frame (wpE (defs₀ (F := F)) 𝒱₀ (thr d L) none) Set.univ (body L)
          fun _ => iprop(Tst d L O q flat z (segAt pc (L 1).val) (segAt pc ((L 1).val + 1)) 2048 ∗ Xtra d L q pc z) := by
  unfold body cc0__pad_stack_body_skel
  rw [k0_part1_eq_skeleton, k0_part2_eq_skeleton, k0_part3_eq_skeleton, k0_part4_eq_skeleton]
  refine wp_then (part1_run h) fun r => ?_
  obtain ⟨v29, a, e, hw, v37⟩ := r
  refine pure_sep_elim fun hae => ?_
  obtain ⟨ha, he⟩ : a = _ ∧ e = _ := hae
  rw [← ha, ← he] at h ⊢
  refine wp_part (F := F) ?_
  have hv := vt_le (i := L) (a := a) (e := e)
  have hz : vt L a e + zt L a e = 2048 := by unfold zt; omega
  refine wp_then (part2_run h v29 hw v37) fun r => ?_
  obtain ⟨v40, v59, v60, v66⟩ := r
  refine wp_then (part3_run h v29 hw v59 v60 v66) fun r => ?_
  obtain ⟨v104, v105, c0⟩ := r
  refine wp_then (part4_run h v29 hw v40 v60 v104 v105 c0) fun r => ?_
  obtain ⟨v133, v135, v138, v141, c1⟩ := r
  refine bit_if (P := fun n => Tst d L O q flat z a e (vt L a e + n)) (cond7_iff h) ?_ fun hc hb hk => ?_
  rotate_left
  · refine zero_step (sz := 16) (n := vt L a e + zt L a e / 2 ^ 5 * 2 ^ 5) (fz := fun _ => z) ?_ ?_ ?_ ?_ ?_ ?_ ?_ ?_
    exacts [rfl, fun _ => rfl, rfl, by decide, off20_eq h, zstep_le hb, Nat.le_add_right _ _, hk]
  refine bit_if (P := fun n => Tst d L O q flat z a e (vt L a e + n)) (cond8_iff h) ?_ fun hc hb hk => ?_
  rotate_left
  · refine zero_step (sz := 8) (n := vt L a e + zt L a e / 2 ^ 4 * 2 ^ 4) (fz := fun _ => z) ?_ ?_ ?_ ?_ ?_ ?_ ?_ ?_
    exacts [rfl, fun _ => rfl, rfl, by decide, off21_eq h, zstep_le hb, Nat.le_add_right _ _, hk]
  refine bit_if (P := fun n => Tst d L O q flat z a e (vt L a e + n)) (cond9_iff h) ?_ fun hc hb hk => ?_
  rotate_left
  · refine zero_step (sz := 4) (n := vt L a e + zt L a e / 2 ^ 3 * 2 ^ 3) (fz := fun _ => z) ?_ ?_ ?_ ?_ ?_ ?_ ?_ ?_
    exacts [rfl, fun _ => rfl, rfl, by decide, off22_eq h, zstep_le hb, Nat.le_add_right _ _, hk]
  refine bit_if (P := fun n => Tst d L O q flat z a e (vt L a e + n)) (cond10_iff h) ?_ fun hc hb hk => ?_
  rotate_left
  · refine zero_step (sz := 2) (n := vt L a e + zt L a e / 2 ^ 2 * 2 ^ 2) (fz := fun _ => z) ?_ ?_ ?_ ?_ ?_ ?_ ?_ ?_
    exacts [rfl, fun _ => rfl, rfl, by decide, off23_eq h, zstep_le hb, Nat.le_add_right _ _, hk]
  refine bit_if (P := fun n => Tst d L O q flat z a e (vt L a e + n)) (cond11_iff h) (wp_end ?_) fun hc hb hk => ?_
  · rw [show vt L a e + zt L a e / 2 ^ 0 * 2 ^ 0 = 2048 by simpa using hz]
  refine zero_step (sz := 1) (n := vt L a e + zt L a e / 2 ^ 1 * 2 ^ 1) (fz := fun _ => z) ?_ ?_ ?_ ?_ ?_ ?_ ?_ ?_
  exacts [rfl, fun _ => rfl, rfl, by decide, off24_eq h, zstep_le hb, Nat.le_add_right _ _, hk]

end Whole

end Cert.KernelIdeal.Pf
-- ==== Proof.LaunchIdeal.lean ====
module

public import proofs.«01_k».proof.Proof.BodyIdeal

/-!
# The launch

What each tile is handed and hands back, the tiles' runs put together, and the whole program's run: what it leaves in
the output, its arguments unchanged, every semaphore at zero.
-/

@[expose] public section

noncomputable section

namespace Cert.KernelIdeal.Pf

open Cert.KernelIdeal Cert.KernelIdeal.Gen Cert.Proof.Words
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3)
open Idealize.ShloMosaic.StableHlo (seq after held wp_seq)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The values -/

/-- The zero the output's empty rows hold. -/
def zero : Elt F .f32 := constant (F := F) S_ .f32 0x00000000#32 fun a => a.elim0

/-- The segment bounds, padded with zeros. -/
def padC (cu : S17.Idx → BitVec 32) : S32.Idx → BitVec 32 :=
  Host.scatter scatter_S32_S1_S17_0_n_0_0 (fun _ b => b) (broadcastInDim S32 ![] bcast_S_S32 (constantI S_ 32 0#32))
    (broadcastInDim S1 ![] bcast_S_S1 (constantI S_ 32 0#32)) cu

/-- The padded output: batch entry `b`'s row `r` is token `r` of segment `b`, or zero past the segment's end. -/
def padded (flat : S32768x1024.Idx → Elt F .f32) (cu : S17.Idx → BitVec 32) : S16x4096x1024.Idx → Elt F .f32 := fun x =>
  rowVal flat zero (segAt (padC cu) (x 0).val).toNat (segAt (padC cu) ((x 0).val + 1)).toNat (x 1).val (x 2)

variable (m : (ℓ : Loc nD τ sig) → Buf (Elt F) ℓ) (ρ : Dev nD → PrngReg)

abbrev cLoc (d : Dev nD) : Loc nD τ sig := (SparseCore.T d).loc main_arg1

/-- The program's result on device `d`. -/
abbrev out (d : Dev nD) : Buf (Elt F) (oLoc d) := padded (m (fLoc d)) (m (cLoc d))

/-- What the proof asks of the launch memory: the bounds are in range, in order, and no segment is too long. -/
def PreOK : Prop := ∀ (d : Dev nD) (s : ℕ), s < 16 → Seg (segAt (padC (m (cLoc d))) s) (segAt (padC (m (cLoc d))) (s + 1))

/-! ## The payloads -/

def coordsV (c : Fin (grid0.bound 0)) (s : Fin (grid0.bound 1)) : grid0.Coords :=
  fun | 0 => c | 1 => s | ⟨_ + 2, h⟩ => absurd h (Nat.not_lt.2 (Nat.le_add_left _ _))

/-- The share of the read arrays tile `(c, s)` gets. -/
abbrev tileShare (c : Fin 2) (s : Fin 16) : PosShare TreeShare := Transfers.shareTok (Transfers.shareTok fullShare 2 c) 16 s

/-- What tile `(c, s)` is handed: its shares of what it reads, and its part of the output. -/
abbrev goP (d : Dev nD) (c : Fin 2) (s : Fin 16) : sProp 𝕄 :=
  iprop((fLoc d ↦{tileShare c s} m (fLoc d)) ∗ (pLoc d ↦{tileShare c s} (padC (m (cLoc d)) : Buf (Elt F) (pLoc d)))
    ∗ (zLoc d ↦{tileShare c s} ((fun _ => zero) : Buf (Elt F) (zLoc d))) ∗ (oLoc d ↦[tileSet (coordsV c s)]{fullShare} m (oLoc d)))
/-- What it hands back: its part of the output, written. -/
abbrev tdP (d : Dev nD) (c : Fin 2) (s : Fin 16) : sProp 𝕄 := oLoc d ↦[tileSet (coordsV c s)]{fullShare} out m d

def P : (K (F := F)).Pay (nD := nD) (Val := Elt F) (Name := ℕ) (U := UU) where
  st := fun q d c => match q with | 0 => bigSep Finset.univ fun s : Fin 16 => goP m d (Fin.cast nCore_zero c) s
  dn := fun q d c => match q with | 0 => bigSep Finset.univ fun s : Fin 16 => tdP m d (Fin.cast nCore_zero c) s
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goP m d (Fin.cast nCore_zero c) s))
  dn q d c := match q with
    | 0 => (inferInstance : BI.Storable (upEmb : UEmb _ 𝕄) (bigSep Finset.univ fun s : Fin 16 => tdP m d (Fin.cast nCore_zero c) s))
  go q d c i := match q with
    | 0 => (inferInstance : BI.Storable (upEmb : UEmb _ 𝕄) (goP m d (Fin.cast nCore_zero c) (Fin.cast nSub_zero i)))
  td q d c i := match q with
    | 0 => (inferInstance : BI.Storable (upEmb : UEmb _ 𝕄) (tdP m d (Fin.cast nCore_zero c) (Fin.cast nSub_zero i)))

/-! ## The tile -/

section Tile
variable (d : Dev nD) (c : Fin (grid0.bound 0)) (s : Fin (grid0.bound 1))

/-- The buffers a tile owns and does not use. -/
abbrev OtherBufs (L : grid0.Coords) : sProp 𝕄 :=
  bigSep ((((ownRefs (τ := τ) (sig := sig) (Proc.scVector (cV L) (jV L))).erase ((Proc.scVector (cV L) (jV L)).devRef cc0_scratch0)).erase
      ((Proc.scVector (cV L) (jV L)).devRef cc0_scratch1)).erase ((Proc.scVector (cV L) (jV L)).devRef cc0_scratch2))
    fun b => iprop(∃ f, (d, b) ↦{fullShare} f)

/-- A tile's own buffers: the three it names, and the rest. -/
theorem ownBufs_V (L : grid0.Coords) :
    (ownBufs (thr d L) : sProp 𝕄)
      = iprop((∃ f, (cuV).view.loc (thr d L) ↦{fullShare} f) ∗ (∃ f, (bV).view.loc (thr d L) ↦{fullShare} f) ∗ (∃ f, (zbV).view.loc (thr d L) ↦{fullShare} f)
          ∗ OtherBufs d L) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  have m1 := Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩
  have m2 := Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩
  have m3 := Finset.mem_erase.mpr ⟨fun e => absurd (Proc.devRef_injective _ e) (show (cc0_scratch2 : Ref sig .scVector) ≠ cc0_scratch1 by decide), m2⟩
  rw [SparseCore.bigSep_erase' m1, SparseCore.bigSep_erase' m3]

omit [FloatOps F] in
/-- What the tile has waited for is of no call or of this one. -/
theorem waits_ok (W W' : Waits sig (HIx 1)) : ∀ p ∈ W', p ∈ W ∨ p.2 = none ∨ p.2 = some (0 : Fin 1) := by
  intro p _
  rcases h : p.2 with _ | q
  · exact .inr (.inl rfl)
  · exact .inr (.inr (congrArg some (Subsingleton.elim _ _)))

/-- The tile's run from what the launch hands it to what it hands back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goP m d c s ∗ scopedBufs (thr d (coordsV c s)) ∗ scopedSems0 (thr d (coordsV c s))
        ∗ owes (thr d (coordsV c s)) O W)
      ⊢ wp frame (wpE (defs₀ (F := F)) 𝒱₀ (thr d (coordsV c s)) none) Set.univ (body (F := F) (coordsV c s))
          fun _ => iprop(tdP m d c s ∗ scopedBufs (thr d (coordsV c s)) ∗ scopedSems0 (thr d (coordsV c s))
            ∗ ∃ W', ⌜∀ p ∈ W', p ∈ W ∨ p.2 = none ∨ p.2 = some (0 : Fin 1)⌝ ∗ owes (thr d (coordsV c s)) O W') := by
  have hseg := hpre d s.val s.isLt
  have hrun := body_run (F := F) (d := d) (L := coordsV c s) (O := O) (q := tileShare c s) (flat := m (fLoc d))
    (pc := padC (m (cLoc d))) (z := zero) (g₀ := m (oLoc d)) hseg
  rw [(K (F := F)).scopedBufs_V hF d (cV (coordsV c s)) (jV (coordsV c s)),
    SparseCore.Cfg.scopedSems0_V (Val := Elt F) d (cV (coordsV c s)) (jV (coordsV c s)), ownBufs_V]
  refine BI.Entails.trans ?_ ((wp_part (F := F) (X := OtherBufs d (coordsV c s)) hrun).trans (wp_mono frame _ _ fun _ => ?_))
  rotate_left
  · unfold Tst St
    iintro ⟨⟨⟨-, -, Hb, Hzb, ⟨%g, %hg, Ho⟩, Hsems, ⟨%W', HO⟩⟩, -, -, Hc⟩, Hrest⟩
    isplitl [Ho]
    · have e : (oLoc d ↦[tileSet (coordsV c s)]{fullShare} g : sProp 𝕄) = tdP m d c s := pointsTo_congr fun x hx => by
        obtain ⟨h0, h1, h2⟩ := mem_tileSet.1 hx
        refine (hg x h0 h1 h2).trans ?_
        rw [← h0]
        rfl
      ihave Ho' := (Entails.of_eq e) $$ Ho
      iexact Ho'
    isplitl [Hb Hzb Hc Hrest]
    · isplitl [Hc]; · iexact Hc
      isplitl [Hb]; · iexact Hb
      isplitl [Hzb]; · iexists _; iexact Hzb
      iexact Hrest
    isplitl [Hsems]; · iexact Hsems
    iexists W'
    isplitr
    · ipureintro; exact waits_ok W W'
    · iexact HO
  · show (_ : sProp 𝕄) ⊢ _
    iintro ⟨#Hlev, -, ⟨Hf, Hp, Hz, Ho⟩, ⟨Hc, Hb, Hzb, Hrest⟩, Hsems, HO⟩
    isplitr [Hrest]
    · ihave #Hmw := (show levAts (K (F := F)).L (K (F := F)).lev ⊢ Transfers.MayWaits (thr d (coordsV c s)) (default : HIx 1) O from
        (K (F := F)).mayWaits_none (thr := thr d (coordsV c s)) hO) $$ Hlev
      isplitr; · iexact Hmw
      isplitl [Hf]; · iexact Hf
      isplitl [Hp]; · iexact Hp
      isplitl [Hz]; · iexact Hz
      isplitl [Hc]; · iexact Hc
      isplitl [Hb]; · iexact Hb
      isplitl [Hzb]; · iexact Hzb
      isplitl [Ho]; · iexact Ho
      isplitl [Hsems]; · iexact Hsems
      iexists W; iexact HO
    · iexact Hrest

theorem defs₀_vector (c : Fin τ.nSC) (s : Fin τ.nSub) :
    defs₀ (F := F) (.scVector c s) 0 ()
      = SparseCore.onTile hcore0 hsub0 (fun c s => body (F := F) (coordsV c s)) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d ⟨_, hci.1⟩ ⟨_, hci.2⟩ hF hpre O W hO

end Tile

/-! ## A core's tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- What a core is handed is its tiles' shares; what it hands back is theirs together. -/
theorem vecSplit : (K (F := F)).VecSplit' (P m) 0 := by
  intro d c
  show (bigSep Finset.univ fun s : Fin 16 => goP m d (Fin.cast nCore_zero c) s) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ bigSep Finset.univ fun s : Fin 16 => tdP m d (Fin.cast nCore_zero c) s))
  rw [bigSep_tasks (F := F) (fun s => goP m d (Fin.cast nCore_zero c) s), bigSep_tasks (F := F) (fun s => tdP m d (Fin.cast nCore_zero c) s)]
  iintro H; imodintro
  isplitl [H]; · iexact H
  iintro H; iexact H

/-! ## The output's parts, and the shares of what is read -/

theorem parts_disjoint : ∀ p ∈ (Finset.univ : Finset (Fin 2 × Fin 16)), ∀ p' ∈ (Finset.univ : Finset (Fin 2 × Fin 16)), p ≠ p' →
    Disjoint (tileSet (coordsV p.1 p.2)) (tileSet (coordsV p'.1 p'.2)) := by
  intro p _ p' _ hne
  refine Finset.disjoint_left.mpr fun x h h' => hne ?_
  obtain ⟨h0, h1, h2⟩ := mem_tileSet.1 h
  obtain ⟨h0', h1', h2'⟩ := mem_tileSet.1 h'
  change _ = p.2.val at h0
  change _ = p'.2.val at h0'
  change 2048 * p.1.val ≤ _ at h1
  change _ < 2048 * p.1.val + 2048 at h2
  change 2048 * p'.1.val ≤ _ at h1'
  change _ < 2048 * p'.1.val + 2048 at h2'
  exact Prod.ext (Fin.ext (by omega)) (Fin.ext (h0.symm.trans h0'))

theorem parts_cover : (Finset.univ : Finset (Fin 2 × Fin 16)).biUnion (fun p => tileSet (coordsV p.1 p.2)) = Finset.univ := by
  refine Finset.eq_univ_iff_forall.mpr fun x => Finset.mem_biUnion.mpr ?_
  have h0 : (x 0).val < 16 := (x 0).isLt
  have h1 : (x 1).val < 4096 := (x 1).isLt
  refine ⟨(⟨(x 1).val / 2048, by omega⟩, ⟨(x 0).val, h0⟩), Finset.mem_univ _, mem_tileSet.2 ⟨rfl, ?_, ?_⟩⟩
  · show 2048 * ((x 1).val / 2048) ≤ (x 1).val
    omega
  · show (x 1).val < 2048 * ((x 1).val / 2048) + 2048
    omega

/-- The output whole is its tiles' parts. -/
theorem out_parts (d : Dev nD) (f : Buf (Elt F) (oLoc d)) :
    (oLoc d ↦{fullShare} f : sProp 𝕄)
      = bigSep Finset.univ fun c : Fin 2 => bigSep Finset.univ fun s : Fin 16 => oLoc d ↦[tileSet (coordsV c s)]{fullShare} f := by
  rw [← bigSep_univ_prod fun p : Fin 2 × Fin 16 => (oLoc d ↦[tileSet (coordsV p.1 p.2)]{fullShare} f : sProp 𝕄),
    ← pointsTo_biUnion Finset.univ (ℓ := oLoc d) (fun p : Fin 2 × Fin 16 => tileSet (coordsV p.1 p.2)) parts_disjoint, parts_cover]
  try rfl

/-- An array held whole gives every tile its share, and keeps one. -/
theorem read_shares {ℓ : Loc nD τ sig} (f : Buf (Elt F) ℓ) :
    (ℓ ↦{fullShare} f : sProp 𝕄) ⊢ iprop((ℓ ↦{Transfers.shareDrop fullShare 2} f)
      ∗ bigSep Finset.univ fun c : Fin 2 => bigSep Finset.univ fun s : Fin 16 => ℓ ↦{tileShare c s} f) :=
  (Transfers.pointsTo_toks_split fullShare 2).trans (sep_mono_right (bigSep_mono fun c _ =>
    (Transfers.pointsTo_toks_split (Transfers.shareTok fullShare 2 c) 16).trans sep_elim_right))

/-- What the call takes for the two cores. -/
theorem st0_eq (d : Dev nD) : (bigSep Finset.univ fun c : Fin ((K (F := F)).nCore 0) => (P m).st 0 d c)
    = bigSep Finset.univ fun c : Fin 2 => bigSep Finset.univ fun s : Fin 16 => goP m d c s :=
  bigSep_cores (F := F) fun c => bigSep Finset.univ fun s : Fin 16 => goP m d c s
/-- What it hands back. -/
theorem dn0_eq (d : Dev nD) : (bigSep Finset.univ fun c : Fin ((K (F := F)).nCore 0) => (P m).dn 0 d c) = (oLoc d ↦{fullShare} out m d : sProp 𝕄) :=
  (bigSep_cores (F := F) fun c => bigSep Finset.univ fun s : Fin 16 => tdP m d c s).trans (out_parts d (out m d)).symm

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The operations before the call -/

/-- The seven operations before the call: the padded bounds and the zeros. -/
def ops : List (HloOp τ sig (Elt F)) := [
  StableHlo.nullary main_c (constantI S_ 32 0#32),
  StableHlo.unary main_c main_v0 (broadcastInDim S32 ![] bcast_S_S32 : (⟨S_, .i32⟩ : BufTy).Contents (Elt F) → (⟨S32, .i32⟩ : BufTy).Contents (Elt F)),
  StableHlo.nullary main_c_0 (constantI S_ 32 0#32),
  StableHlo.unary main_c_0 main_v1 (broadcastInDim S1 ![] bcast_S_S1 : (⟨S_, .i32⟩ : BufTy).Contents (Elt F) → (⟨S1, .i32⟩ : BufTy).Contents (Elt F)),
  StableHlo.ternary main_v0 main_v1 main_arg1 main_v2 ((fun x i u => Host.scatter scatter_S32_S1_S17_0_n_0_0 (fun _ b => b) x i u) : (⟨S32, .i32⟩ : BufTy).Contents (Elt F) → (⟨S1, .i32⟩ : BufTy).Contents (Elt F) → (⟨S17, .i32⟩ : BufTy).Contents (Elt F) → (⟨S32, .i32⟩ : BufTy).Contents (Elt F)),
  StableHlo.nullary main_cst (constant S_ .f32 0x00000000#32),
  StableHlo.unary main_cst main_v3 (broadcastInDim S32x1024 ![] bcast_S_S32x1024 : (⟨S_, .f32⟩ : BufTy).Contents (Elt F) → (⟨S32x1024, .f32⟩ : BufTy).Contents (Elt F))]

theorem main_eq (d : Dev nD) : main (F := F) d = seq ops >>= fun _ => (K (F := F)).run d 0 >>= fun _ => pure ⟨⟩ := by
  simp only [ops, seq, bind_assoc, pure_bind]
  rfl

abbrev f' : DevRef τ sig := Proc.devRef .tc (main_arg0 : Ref sig .tc)
abbrev c' : DevRef τ sig := Proc.devRef .tc (main_arg1 : Ref sig .tc)
abbrev p' : DevRef τ sig := Proc.devRef .tc (main_v2 : Ref sig .tc)
abbrev z' : DevRef τ sig := Proc.devRef .tc (main_v3 : Ref sig .tc)
abbrev o' : DevRef τ sig := Proc.devRef .tc (main_v4 : Ref sig .tc)

/-- The arrays the call and the claim are about, and the others. -/
abbrev rest5 : Finset (DevRef τ sig) := {Proc.devRef .tc (main_c : Ref sig .tc), Proc.devRef .tc (main_v0 : Ref sig .tc),
  Proc.devRef .tc (main_c_0 : Ref sig .tc), Proc.devRef .tc (main_v1 : Ref sig .tc), Proc.devRef .tc (main_cst : Ref sig .tc)}
abbrev S10 : Finset (DevRef τ sig) := insert f' (insert c' (insert p' (insert z' (insert o' rest5))))

/-- The launch contents; the contents when the call starts. -/
def V0 (d : Dev nD) : Valuation τ sig (Elt F) := fun b => m (d, b)
def V1 (d : Dev nD) : Valuation τ sig (Elt F) := after ops (V0 m d)

theorem unscoped_held (d : Dev nD) : (unscopedBufs d (fun b => m ((SparseCore.T d).loc b)) : sProp 𝕄) = held (T d) S10 (V0 m d) := by
  unfold unscopedBufs held
  rw [show S10 = (Finset.univ.filter fun b : Ref sig .tc => ¬ b.isScoped).map ⟨Proc.devRef (τ := τ) .tc, Proc.devRef_injective _⟩ by decide, bigSep_map]
  rfl

/-- The five arrays the call and the claim are about, out of the ten. -/
theorem held_S10 (d : Dev nD) (W : Valuation τ sig (Elt F)) :
    (held (T d) S10 W : sProp 𝕄) = iprop((fLoc d ↦{fullShare} W f') ∗ (cLoc d ↦{fullShare} W c') ∗ (pLoc d ↦{fullShare} W p')
      ∗ (zLoc d ↦{fullShare} W z') ∗ (oLoc d ↦{fullShare} W o') ∗ held (T d) rest5 W) := by
  unfold held
  rw [SparseCore.bigSep_insert' (by decide), SparseCore.bigSep_insert' (by decide), SparseCore.bigSep_insert' (by decide),
    SparseCore.bigSep_insert' (by decide), SparseCore.bigSep_insert' (by decide)]

theorem V1_f (d : Dev nD) : V1 m d f' = m (fLoc d) := by
  unfold V1 ops
  after_results
  rfl
theorem V1_c (d : Dev nD) : V1 m d c' = m (cLoc d) := by
  unfold V1 ops
  after_results
  rfl
theorem V1_o (d : Dev nD) : V1 m d o' = m (oLoc d) := by
  unfold V1 ops
  after_results
  rfl
theorem V1_p (d : Dev nD) : V1 m d p' = padC (m (cLoc d)) := by
  unfold V1 ops
  after_results
  rfl
theorem V1_z (d : Dev nD) : V1 m d z' = fun _ => zero := by
  unfold V1 ops
  after_results
  rfl

theorem ops_bufs : ∀ op ∈ ops (F := F), op.bufs ⊆ S10 := by
  simp only [ops, List.forall_mem_cons]
  refine ⟨?_, ?_, ?_, ?_, ?_, ?_, ?_, fun _ h => absurd h List.not_mem_nil⟩ <;>
    simp only [StableHlo.nullary_bufs, StableHlo.unary_bufs, StableHlo.ternary_bufs] <;> decide
theorem ops_fresh : ∀ op ∈ ops (F := F), op.fresh = ∅ := by
  simp only [ops, List.forall_mem_cons]
  refine ⟨rfl, rfl, rfl, rfl, rfl, rfl, rfl, fun _ h => absurd h List.not_mem_nil⟩

/-! ## The program on the TensorCore -/

/-- What the program leaves the claim: a share of the tokens, the bounds, and the output written. -/
abbrev FIN (d : Dev nD) : sProp 𝕄 :=
  iprop((fLoc d ↦{Transfers.shareDrop fullShare 2} m (fLoc d)) ∗ (cLoc d ↦{fullShare} m (cLoc d)) ∗ (oLoc d ↦{fullShare} out m d))

/-- The four arrays a call takes are what its tiles are handed; a share of the tokens is kept. -/
theorem to_tiles (d : Dev nD) :
    iprop((fLoc d ↦{fullShare} m (fLoc d)) ∗ (pLoc d ↦{fullShare} (padC (m (cLoc d)) : Buf (Elt F) (pLoc d)))
      ∗ (zLoc d ↦{fullShare} ((fun _ => zero) : Buf (Elt F) (zLoc d))) ∗ (oLoc d ↦{fullShare} m (oLoc d)))
    ⊢ iprop((fLoc d ↦{Transfers.shareDrop fullShare 2} m (fLoc d))
      ∗ bigSep Finset.univ fun c : Fin 2 => bigSep Finset.univ fun s : Fin 16 => goP m d c s) := by
  simp only [bigSep_sep']
  rw [out_parts]
  iintro ⟨Hf, Hp, Hz, Ho⟩
  ihave Hf' := (read_shares (F := F) (m (fLoc d))) $$ Hf
  ihave Hp' := (read_shares (F := F) (ℓ := pLoc d) (padC (m (cLoc d)))) $$ Hp
  ihave Hz' := (read_shares (F := F) (ℓ := zLoc d) fun _ => zero) $$ Hz
  icases Hf' with ⟨Hk, Hf⟩
  icases Hp' with ⟨-, Hp⟩
  icases Hz' with ⟨-, Hz⟩
  isplitl [Hk]; · iexact Hk
  isplitl [Hf]; · iexact Hf
  isplitl [Hp]; · iexact Hp
  isplitl [Hz]; · iexact Hz
  iexact Ho

/-- The program on device `d`'s TensorCore: the operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d S10 _ ops ops_bufs ops_fresh (V0 m d)) $$ [Hb Hheld]
  · isplitl [Hb]; · iexact Hb
    iexact Hheld
  iintro ⟨Hb, Hheld⟩
  ihave Hh := (show held (d.tc : Thread nD τ) S10 (after ops (V0 m d)) ⊢ _ from Entails.of_eq (held_S10 (F := F) d (V1 m d))) $$ Hheld
  rw [V1_f, V1_c, V1_p, V1_z, V1_o]
  icases Hh with ⟨Hf, Hc, Hp, Hz, Ho, -⟩
  ihave Hg := (to_tiles m d) $$ [Hf Hp Hz Ho]
  · isplitl [Hf]; · iexact Hf
    isplitl [Hp]; · iexact Hp
    isplitl [Hz]; · iexact Hz
    iexact Ho
  icases Hg with ⟨Hk, Hg⟩
  rw [wp_bind]
  iapply ((K (F := F)).wp_run (D (F := F)) 𝒱 (EH := EH) (P := P m) κ d 0) $$ [Hst Hg Hb Hts Hk Hc]
  isplitr; · iexact Hctx
  isplitl [Hst]; · iexact Hst
  isplitl [Hg]
  · rw [st0_eq]
    iexact Hg
  iintro ⟨Hst, Hdn⟩
  ihave Ho := (Entails.of_eq (dn0_eq m d)) $$ Hdn
  rw [wp_pure]
  imodintro
  isplitl [Hst]; · iexact Hst
  isplitr [Hb Hts]
  · isplitl [Hk]; · iexact Hk
    isplitl [Hc]; · iexact Hc
    iexact Ho
  isplitl [Hb] <;> iassumption

/-! ## The program's run -/

def fq (d : Dev nD) (s' : Phys nD τ sig (Elt F)) : Prop :=
  s'.mem.mem (fLoc d) = m (fLoc d) ∧ s'.mem.mem (cLoc d) = m (cLoc d) ∧ s'.mem.mem (oLoc d) = out m d

set_option maxRecDepth 16384 in
theorem hfin (d : Dev nD) (s' : Phys nD τ sig (Elt F)) : iprop(FIN m d ∗ SI s') ⊢ (⌜fq m d s'⌝ : sProp 𝕄) := by
  iintro ⟨⟨Hf, Hc, Ho⟩, HSI⟩
  ihave H := (persistent_entails_right (SI_pointsTo_agree (st := s') (ℓ := fLoc d) (I := Finset.univ) (q := Transfers.shareDrop fullShare 2) (f := m (fLoc d)))) $$ [HSI Hf]
  · isplitl [HSI] <;> iassumption
  icases H with ⟨%h1, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h2, HSI, -⟩
  ihave H := (SI_pointsTo_agree (st := s') (ℓ := oLoc d) (I := Finset.univ) (q := fullShare) (f := out m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- What the program's run ends with: the arguments unchanged, the output padded, every semaphore at zero. -/
def QC : PUnit × MemSt nD τ sig (Elt F) → Prop := fun r =>
  (∀ c : Dev nD, r.2.mem (fLoc c) = m (fLoc c) ∧ r.2.mem (cLoc c) = m (cLoc c) ∧ r.2.mem (oLoc c) = out m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Pf
-- ==== Proof.PadIdeal.lean ====
module

public import proofs.«01_k».proof.Proof.LaunchIdeal
public import proofs.«01_k».proof.Proof.Land
public import proofs.«01_k».proof.Proof.Segs

/-!
# The kernel's table of bounds under the precondition

The host part's padded table holds the seventeen bounds, so the bounds a tile reads are those the precondition speaks of.
-/

@[expose] public section

noncomputable section

namespace Cert.KernelIdeal.Pf

open Cert.KernelIdeal Cert.KernelIdeal.Gen Cert.Proof.Segs
open Idealize.ShloMosaic
open Idealize.ShloMosaic.ValueIdx (ix1 ix2)

variable {F : FTy → Type} [FloatOps F]

/-- Entry `n` of the table, up to the seventeenth, is bound `n`. -/
theorem segAt_padC (cu : S17.Idx → BitVec 32) {n : ℕ} (hn : n < 17) : (segAt (padC cu) n).toNat = bd cu n := by
  have e : padC cu (ix1 ⟨n, by omega⟩) = cu (ix1 ⟨n, hn⟩) :=
    Cert.Proof.Scatter.table_apply (wf := scatter_S32_S1_S17_0_n_0_0_wf) (idx := broadcastInDim S1 ![] bcast_S_S1 (constantI S_ 32 0#32)) (fun _ => rfl) _ cu hn
  have i32 : (⟨n % 32, Nat.mod_lt _ (by decide)⟩ : Fin 32) = ⟨n, by omega⟩ := Fin.ext (Nat.mod_eq_of_lt (by omega))
  have i17 : (⟨n % 17, Nat.mod_lt _ (by decide)⟩ : Fin 17) = ⟨n, hn⟩ := Fin.ext (Nat.mod_eq_of_lt hn)
  unfold segAt bd
  rw [i32, i17, e]

/-- Bounds in order make every tile's segment a sound one. -/
theorem preOK_of_bounds {m : (ℓ : Loc nD τ sig) → Buf (Elt F) ℓ} (h : ∀ d, Bounds (m (cLoc d))) : PreOK m := fun d s hs =>
  { le := by rw [segAt_padC _ (by omega), segAt_padC _ (by omega)]; exact (h d).le s hs
    inb := by rw [segAt_padC _ (by omega)]; exact (h d).top _
    len := by rw [segAt_padC _ (by omega), segAt_padC _ (by omega)]; exact (h d).len s hs }

/-- The output in terms of the bounds: batch entry `b`'s row `r` is the token `r` places after bound `b`, if that is before
    bound `b + 1`, else zeros. -/
theorem padded_apply (flat : S32768x1024.Idx → Elt F .f32) (cu : S17.Idx → BitVec 32) (x : S16x4096x1024.Idx) :
    padded flat cu x
      = if bd cu (x 0).val + (x 1).val < bd cu ((x 0).val + 1) then
          flat (ix2 ⟨(bd cu (x 0).val + (x 1).val) % 32768, Nat.mod_lt _ (by decide)⟩ (x 2))
        else zero := by
  have hx : (x 0).val < 16 := (x 0).isLt
  unfold padded rowVal
  simp only [segAt_padC cu (show (x 0).val < 17 by omega), segAt_padC cu (show (x 0).val + 1 < 17 by omega)]

end Cert.KernelIdeal.Pf

end
-- ==== Proof.Ref.lean ====
module

public import proofs.«01_k».proof.Proof.Gen.ReferenceIdeal.Run
public import proofs.«01_k».proof.Proof.Land
public import proofs.«01_k».proof.Proof.Segs

/-!
# What the reference computes

For a token in segment `b` the reference counts the bounds up to the token, finds `b`, subtracts bound `b` from the token's
number and puts the token's row at that row of batch entry `b`. So batch entry `b`'s row `r` ends as the token
`r` places after bound `b` when that is before bound `b + 1`, and as zeros otherwise.
-/

@[expose] public section

noncomputable section

namespace Cert.Proof.Ref

open Cert.ReferenceIdeal Cert.ReferenceIdeal.Gen Cert.Proof.Segs Cert.Proof.Scatter
open Idealize.ShloMosaic Idealize.ShloMosaic.StableHlo.Predicate
open Idealize.ShloMosaic.ValueIdx (ix1 ix2 ix3)

variable {F : FTy → Type} [FloatOps F]

/-! ## The reference's words -/

/-- For every token the number of bounds up to it. -/
def cnt (cu : Cu) : IVec S32768 32 :=
  Host.reduce IntOp.addi
    (extui 32
      (cmpi .sle (broadcastInDim S32768x17 ![0, 1] bcast_S1x17_S32768x17_0_1 (broadcastInDim S1x17 ![1] bcast_S17_S1x17_1 cu))
        (broadcastInDim S32768x17 ![0, 1] bcast_S32768x1_S32768x17_0_1 (broadcastInDim S32768x1 ![0] bcast_S32768_S32768x1_0 (iotaInDim S32768 32 0))))
      natLt_1_32)
    (constantI S_ 32 0#32) reducesTo_S32768x17_S32768_d1 h_S_

/-- One word for every token. -/
def splat (k : BitVec 32) : IVec S32768 32 := broadcastInDim S32768 ![] bcast_S_S32768 (constantI S_ 32 k)

/-- A negative index counted from the end of an axis of extent `k`. -/
def wrap (k : BitVec 32) (x : IVec S32768 32) : IVec S32768 32 := select (cmpi .slt x (splat 0#32)) (addi x (splat k)) x

/-- Every token's batch entry. -/
def bat (cu : Cu) : IVec S32768 32 := minsi (splat 15#32) (maxsi (splat 0#32) (subi (cnt cu) (splat 1#32)))

/-- Every token's row in its batch entry. -/
def pos (cu : Cu) : IVec S32768 32 :=
  subi (iotaInDim S32768 32 0)
    (Host.gather gather_S17_S32768x1_S32768_n_0_n_n_0_1_1 cu (broadcastInDim S32768x1 ![0] bcast_S32768_S32768x1_0 (wrap 17#32 (bat cu))))

/-- Both, side by side. -/
def idxs (cu : Cu) : IVec S32768x2 32 :=
  concatenate S32768x2 1
    [⟨S32768x1, broadcastInDim S32768x1 ![0] bcast_S32768_S32768x1_0 (wrap 16#32 (bat cu))⟩,
      ⟨S32768x1, broadcastInDim S32768x1 ![0] bcast_S32768_S32768x1_0 (wrap 4096#32 (pos cu))⟩]
    concatenates_S32768x1_S32768x1_S32768x2_d1

/-- The reference's result in those names. -/
theorem res_eq (m : (ℓ : Loc nD τ sig) → Buf (Elt F) ℓ) (c : Dev nD) :
    Value.res_out0 m c
      = Host.scatter scatter_S16x4096x1024_S32768x2_S32768x1024_1_01_01_1 (fun _ b => b)
          (broadcastInDim S16x4096x1024 ![] bcast_S_S16x4096x1024 (constant S_ .f32 0x00000000#32))
          (idxs (m ((c.tc : Thread nD τ).loc main_arg1))) (m ((c.tc : Thread nD τ).loc main_arg0)) := rfl

/-! ## The words at one token -/

/-- Two columns side by side, read in the first. -/
theorem columns_fst {α : Type} {n : ℕ} (a b : (⟨2, ![n, 1]⟩ : Shape).Idx → α) (h : Shape.Concatenates [⟨2, ![n, 1]⟩, ⟨2, ![n, 1]⟩] ⟨2, ![n, 2]⟩ 1) (t : Fin n) :
    concatenate ⟨2, ![n, 2]⟩ 1 [⟨⟨2, ![n, 1]⟩, a⟩, ⟨⟨2, ![n, 1]⟩, b⟩] h (ix2 t 0) = a (ixP t) := by
  refine congrArg a (funext fun k => Fin.ext ?_)
  match k with
  | ⟨0, _⟩ => rfl
  | ⟨1, _⟩ => rfl

/-- Two columns side by side, read in the second. -/
theorem columns_snd {α : Type} {n : ℕ} (a b : (⟨2, ![n, 1]⟩ : Shape).Idx → α) (h : Shape.Concatenates [⟨2, ![n, 1]⟩, ⟨2, ![n, 1]⟩] ⟨2, ![n, 2]⟩ 1) (t : Fin n) :
    concatenate ⟨2, ![n, 2]⟩ 1 [⟨⟨2, ![n, 1]⟩, a⟩, ⟨⟨2, ![n, 1]⟩, b⟩] h (ix2 t 1) = b (ixP t) := by
  refine congrArg b (funext fun k => Fin.ext ?_)
  match k with
  | ⟨0, _⟩ => rfl
  | ⟨1, _⟩ => rfl

/-- A word that isn't negative stays as it is. -/
theorem wrap_apply (k : BitVec 32) (x : IVec S32768 32) (i : S32768.Idx) (h : (x i).toNat < 2 ^ 31) : wrap k x i = x i := by
  refine if_neg fun e => ?_
  have : (x i).toNat < 0 := (slt_iff_toNat h (show (0#32 : BitVec 32).toNat < 2 ^ 31 by decide)).1 e
  omega

/-- A token is in one segment. -/
theorem segment_of {cu : Cu} (h : Bounds cu) {t : ℕ} (ht : t < 32768) : ∃ b, b < 16 ∧ bd cu b ≤ t ∧ t < bd cu (b + 1) := by
  have key : ∀ n, n ≤ 16 → t < bd cu n → ∃ b, b < n ∧ bd cu b ≤ t ∧ t < bd cu (b + 1) := by
    intro n
    induction n with
    | zero => intro _ h0; rw [h.zero] at h0; omega
    | succ n ih =>
      intro hn hlt
      by_cases hc : t < bd cu n
      · obtain ⟨b, hb, hx⟩ := ih (by omega) hc
        exact ⟨b, by omega, hx⟩
      · exact ⟨n, by omega, by omega, hlt⟩
  exact key 16 le_rfl (by rw [h.last]; exact ht)

section Token
variable {cu : Cu} (h : Bounds cu) {t : Fin 32768} {b : ℕ} (hb : b < 16) (hlo : bd cu b ≤ t.val) (hhi : t.val < bd cu (b + 1))
include h hb hlo hhi

/-- The bounds up to a token of segment `b` are bounds 0 to `b`. -/
theorem cnt_apply : (cnt cu (Shape.Idx.ofFin t)).toNat = b + 1 := by
  have card : ∀ b, b < 16 → (Finset.univ.filter fun q : Fin 17 => q.val ≤ b).card = b + 1 := by decide
  unfold cnt
  rw [toNat_reduce_count_cols (by decide), ← card b hb]
  refine congrArg Finset.card (Finset.filter_congr fun q _ => ?_)
  have ht := t.isLt
  have tn : (BitVec.ofNat 32 t.val).toNat = t.val := by rw [BitVec.toNat_ofNat]; exact Nat.mod_eq_of_lt (by omega)
  have eq : bd cu q.val = (cu (Shape.Idx.ofFin q)).toNat := by
    unfold bd
    refine congrArg (fun i => (cu i).toNat) (funext fun a => Fin.ext ?_)
    match a with
    | ⟨0, _⟩ => exact Nat.mod_eq_of_lt q.isLt
  have top := h.top q.val
  have hA := bcast_cols bcast_S17_S1x17_1 bcast_S1x17_S32768x17_0_1 cu t q
  have hB := (bcast_rows bcast_S32768_S32768x1_0 bcast_S32768x1_S32768x17_0_1 (iotaInDim S32768 32 0) t q).trans (iota_apply t)
  refine (Iff.of_eq (congrArg (· = 1#1) (congrArg₂ (IntOp.cmpi .sle) hA hB))).trans ?_
  rw [sle_iff_toNat (by omega) (by omega), tn, ← eq]
  constructor
  · intro hq
    by_contra hc
    have := h.mono (a := b + 1) (b := q.val) (by omega) (by omega)
    omega
  · intro hq
    exact (h.mono hq (by omega)).trans hlo

/-- Its batch entry is `b`. -/
theorem bat_apply : (bat cu (Shape.Idx.ofFin t)).toNat = b := by
  have e := cnt_apply h hb hlo hhi
  show (IntOp.minsi 15#32 (IntOp.maxsi 0#32 (cnt cu (Shape.Idx.ofFin t) - 1#32))).toNat = b
  have s : (cnt cu (Shape.Idx.ofFin t) - 1#32).toNat = b := by
    rw [BitVec.toNat_sub, e, BitVec.toNat_ofNat]; omega
  generalize cnt cu (Shape.Idx.ofFin t) - 1#32 = x at s
  have hx : IntOp.maxsi 0#32 x = x := by
    unfold IntOp.maxsi
    refine if_neg fun hc => ?_
    have := (slt_bool_iff_toNat (a := x) (b := 0#32) (by omega) (by decide)).1 ((ofBool_eq_one_iff _).2 hc)
    exact absurd this (Nat.not_lt_zero _)
  rw [hx]
  unfold IntOp.minsi
  rw [if_neg fun hc => ?_, s]
  have := (slt_bool_iff_toNat (a := 15#32) (b := x) (by decide) (by omega)).1 ((ofBool_eq_one_iff _).2 hc)
  rw [s] at this
  exact absurd (show 15 < b from this) (by omega)

/-- Its row is its distance from bound `b`. -/
theorem pos_apply : (pos cu (Shape.Idx.ofFin t)).toNat = t.val - bd cu b := by
  have e := bat_apply h hb hlo hhi
  have g : Host.gather gather_S17_S32768x1_S32768_n_0_n_n_0_1_1 cu
      (broadcastInDim S32768x1 ![0] bcast_S32768_S32768x1_0 (wrap 17#32 (bat cu))) (Shape.Idx.ofFin t)
      = cu (ix1 ⟨b % 17, Nat.mod_lt _ (by decide)⟩) := by
    rw [gather_take _ rfl rfl rfl rfl cu _ t (by decide)]
    refine congrArg cu (funext fun a => Fin.ext ?_)
    match a with
    | ⟨0, _⟩ =>
      show min (broadcastInDim S32768x1 ![0] bcast_S32768_S32768x1_0 (wrap 17#32 (bat cu)) (ixP t)).toInt.toNat (17 - 1) = b % 17
      rw [bcast_col1, wrap_apply _ _ _ (by omega), toInt_eq_toNat_of_lt (by omega), e]
      omega
  show (BitVec.ofNat 32 t.val - _).toNat = _
  rw [g]
  have ht := t.isLt
  have top := h.top b
  rw [BitVec.toNat_sub, BitVec.toNat_ofNat]
  show (2 ^ 32 - bd cu b + t.val % 2 ^ 32) % 2 ^ 32 = _
  omega

/-- The token's two index words. -/
theorem idxs_apply : (idxs cu (ix2 t 0)).toInt = b ∧ (idxs cu (ix2 t 1)).toInt = (t.val : ℤ) - bd cu b := by
  have e := bat_apply h hb hlo hhi
  have p := pos_apply h hb hlo hhi
  have ht := t.isLt
  have i0 : idxs cu (ix2 t 0) = wrap 16#32 (bat cu) (Shape.Idx.ofFin t) :=
    (columns_fst _ _ concatenates_S32768x1_S32768x1_S32768x2_d1 t).trans (bcast_col1 bcast_S32768_S32768x1_0 _ t)
  have i1 : idxs cu (ix2 t 1) = wrap 4096#32 (pos cu) (Shape.Idx.ofFin t) :=
    (columns_snd _ _ concatenates_S32768x1_S32768x1_S32768x2_d1 t).trans (bcast_col1 bcast_S32768_S32768x1_0 _ t)
  rw [i0, i1, wrap_apply _ _ _ (by omega), wrap_apply _ _ _ (by omega), toInt_eq_toNat_of_lt (by omega), toInt_eq_toNat_of_lt (by omega), e, p]
  omega

end Token

/-! ## The result -/

/-- Batch entry `b`'s row `r` is the token `r` places after bound `b`, if that is before bound `b + 1`, else zeros. -/
theorem res_apply (m : (ℓ : Loc nD τ sig) → Buf (Elt F) ℓ) (c : Dev nD) (h : Bounds (m ((c.tc : Thread nD τ).loc main_arg1)))
    (x : S16x4096x1024.Idx) :
    Value.res_out0 m c x
      = if bd (m ((c.tc : Thread nD τ).loc main_arg1)) (x 0).val + (x 1).val < bd (m ((c.tc : Thread nD τ).loc main_arg1)) ((x 0).val + 1) then
          m ((c.tc : Thread nD τ).loc main_arg0)
            (ix2 ⟨(bd (m ((c.tc : Thread nD τ).loc main_arg1)) (x 0).val + (x 1).val) % 32768, Nat.mod_lt _ (by decide)⟩ (x 2))
        else constant (F := F) S_ .f32 0x00000000#32 fun a => a.elim0 := by
  rw [res_eq]
  generalize m ((c.tc : Thread nD τ).loc main_arg0) = flat
  generalize m ((c.tc : Thread nD τ).loc main_arg1) = cu at h ⊢
  have x0 : (x 0).val < 16 := (x 0).isLt
  have land : ∀ j : S32768x1024.Idx, (rowDims scatter_S16x4096x1024_S32768x2_S32768x1024_1_01_01_1_wf).resultIdx? j (idxs cu) = some x →
      bd cu (x 0).val + (x 1).val = (j 0).val ∧ (j 0).val < bd cu ((x 0).val + 1) ∧ j 1 = x 2 := fun j hj => by
    obtain ⟨h0, h1, h2⟩ := row_lands.1 hj
    obtain ⟨b, hb, hlo, hhi⟩ := segment_of h (j 0).isLt
    obtain ⟨e0, e1⟩ := idxs_apply (t := j 0) h hb hlo hhi
    have hbx : b = (x 0).val := by
      have := e0.symm.trans h0
      omega
    subst hbx
    have := e1.symm.trans h1
    exact ⟨by omega, hhi, Fin.ext h2⟩
  split
  · next hlt =>
    have htop := h.top ((x 0).val + 1)
    have hmod : (bd cu (x 0).val + (x 1).val) % 32768 = bd cu (x 0).val + (x 1).val := Nat.mod_eq_of_lt (by omega)
    refine scatter_hit (d := rowDims scatter_S16x4096x1024_S32768x2_S32768x1024_1_01_01_1_wf) _ _ (row_lands.2 ?_) fun j' hj => ?_
    · obtain ⟨e0, e1⟩ := idxs_apply (t := ⟨(bd cu (x 0).val + (x 1).val) % 32768, Nat.mod_lt _ (by decide)⟩) (b := (x 0).val) h x0
        (hmod.symm ▸ Nat.le_add_right _ _ : bd cu (x 0).val ≤ (bd cu (x 0).val + (x 1).val) % 32768)
        (hmod.symm ▸ hlt : (bd cu (x 0).val + (x 1).val) % 32768 < bd cu ((x 0).val + 1))
      refine ⟨e0, e1.trans ?_, rfl⟩
      show (((bd cu (x 0).val + (x 1).val) % 32768 : ℕ) : ℤ) - _ = _
      rw [hmod]; omega
    · obtain ⟨e0, -, e2⟩ := land j' hj
      funext a
      match a with
      | ⟨0, _⟩ => exact Fin.ext (e0.symm.trans hmod.symm)
      | ⟨1, _⟩ => exact e2
  · next hge =>
    refine (scatter_miss (d := rowDims scatter_S16x4096x1024_S32768x2_S32768x1024_1_01_01_1_wf) _ fun j hj => hge ?_).trans ?_
    · obtain ⟨e0, e1, -⟩ := land j hj
      omega
    · rfl

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_valid_segments
public import proofs.«01_k».proof.Proof.Pad
public import proofs.«01_k».proof.Proof.PadIdeal
public import proofs.«01_k».proof.Proof.Ref
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs, leaves its arguments alone and every counter at zero. -/
theorem frame_kernel : Cert.quiescent_Kernel := fun m g hp =>
  (θ_run Cert.Kernel.defs _ _).mono (fun _ h => ⟨fun c => ⟨(h.1 c).1, (h.1 c).2.1⟩, h.2⟩)
    (Cert.Kernel.Pf.run_main (F := Bits) m g (Cert.Kernel.Pf.preOK_of_bounds fun d => Segs.bounds_of_pre _ _ (hp d)))

/-- So does the kernel read at the ideal instance, which ends with the padded output. -/
theorem run_ideal (m : (ℓ : Loc Cert.KernelIdeal.nD Cert.KernelIdeal.τ Cert.KernelIdeal.sig) → Buf (Elt Ideal) ℓ) (g : Dev Cert.KernelIdeal.nD → PrngReg)
    (hp : Cert.Pre_KernelIdeal m) :
    θ_run (Cert.KernelIdeal.defs (F := Ideal)) (Cert.KernelIdeal.threads (F := Ideal)) ⟨m, fun _ => 0, g⟩ (Cert.KernelIdeal.Pf.QC m) :=
  Cert.KernelIdeal.Pf.run_main (F := Ideal) m g (Cert.KernelIdeal.Pf.preOK_of_bounds fun d => Segs.bounds_of_pre _ _ (hp d))

/-- The frame of the kernel at the ideal instance. -/
theorem frame_ideal : Cert.quiescent_KernelIdeal := fun m g hp =>
  (θ_run Cert.KernelIdeal.defs _ _).mono (fun _ h => ⟨fun c => ⟨(h.1 c).1, (h.1 c).2.1⟩, h.2⟩) (run_ideal m g hp)

/-- The reference runs and leaves its arguments alone; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's padded output is the reference's result. -/
theorem values_agree : Cert.algebraic_KernelIdeal_ReferenceIdeal := fun m g m' g' hp hagree => by
  refine ⟨fun c => Cert.KernelIdeal.Pf.out m c,
    (θ_run Cert.KernelIdeal.defs _ _).mono (fun _ h c => ⟨(h.1 c).2.2, (h.1 c).1, (h.1 c).2.1⟩) (run_ideal m g hp),
    (θ_run Cert.ReferenceIdeal.defs _ _).mono (fun _ h c => ⟨(h c).1.trans ?_, (h c).2⟩) (Cert.ReferenceIdeal.Value.run (F := Ideal) m' g')⟩
  obtain ⟨h0, h1⟩ := hagree c
  have hb := Segs.bounds_of_pre _ _ (hp c)
  funext x
  refine (Ref.res_apply m' c (h1 ▸ hb) x).trans (Eq.trans ?_ (Cert.KernelIdeal.Pf.padded_apply _ _ x).symm)
  rw [h0, h1]
  rfl

/-- Everything the certificate claims. -/
theorem claim : Cert.Claim :=
  ⟨Cert.Kernel.Gen.facts, Cert.KernelIdeal.Gen.facts, Cert.ReferenceIdeal.Gen.facts, Cert.Pre_valid_segments.Gen.facts,
    frame_kernel, frame_ideal, frame_reference, trivial, values_agree⟩

end Cert.Proof

end
